-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S16x128 Cert.KernelIdeal.S8x128
  ∧ IdealRules.bf16_pair.Statement Cert.KernelIdeal.S1x1x1x16x128 Cert.KernelIdeal.S1x1x1x8x128
  ∧ IdealRules.bf16_pair.Statement Cert.KernelIdeal.S1x1x1x2x128 Cert.KernelIdeal.S1x1x1x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x16384 : Shape := ⟨3, ![8, 1, 16384]⟩
abbrev S4096x8192 : Shape := ⟨2, ![4096, 8192]⟩
abbrev S1024x8192 : Shape := ⟨2, ![1024, 8192]⟩
abbrev S8x16384 : Shape := ⟨2, ![8, 16384]⟩
abbrev S8x8192 : Shape := ⟨2, ![8, 8192]⟩
abbrev S4096x512 : Shape := ⟨2, ![4096, 512]⟩
abbrev S1024x512 : Shape := ⟨2, ![1024, 512]⟩
abbrev S8x512 : Shape := ⟨2, ![8, 512]⟩
abbrev S2x8x8192 : Shape := ⟨3, ![2, 8, 8192]⟩
abbrev S4x2x2x256x128 : Shape := ⟨5, ![4, 2, 2, 256, 128]⟩
abbrev S256x256 : Shape := ⟨2, ![256, 256]⟩
abbrev S8x128 : Shape := ⟨2, ![8, 128]⟩
abbrev S8x256 : Shape := ⟨2, ![8, 256]⟩
abbrev S1x8x256 : Shape := ⟨3, ![1, 8, 256]⟩
abbrev S16x128 : Shape := ⟨2, ![16, 128]⟩
abbrev S4x2x2x128x128 : Shape := ⟨5, ![4, 2, 2, 128, 128]⟩
abbrev S1x1x1x8x128 : Shape := ⟨5, ![1, 1, 1, 8, 128]⟩
abbrev S1x1x1x16x128 : Shape := ⟨5, ![1, 1, 1, 16, 128]⟩
abbrev S32x128 : Shape := ⟨2, ![32, 128]⟩
abbrev S8x1x128 : Shape := ⟨3, ![8, 1, 128]⟩
abbrev S8x8x128 : Shape := ⟨3, ![8, 8, 128]⟩
abbrev S64x128 : Shape := ⟨2, ![64, 128]⟩
abbrev S1x1x1x1x128 : Shape := ⟨5, ![1, 1, 1, 1, 128]⟩
abbrev S1x1x1x2x128 : Shape := ⟨5, ![1, 1, 1, 2, 128]⟩
abbrev S1x128 : Shape := ⟨2, ![1, 128]⟩
abbrev S256x128 : Shape := ⟨2, ![256, 128]⟩

abbrev nBuf : Space → Nat
  | .hbm => 6
  | .vmem => 12
  | .smem => 0
  | _ => 0

abbrev bufTy : (tb : Table) → Fin (tcTables nBuf tb) → BufTy
  | .hbm, ⟨0, _⟩ => ⟨S8x1x16384, .bf16⟩
  | .hbm, ⟨1, _⟩ => ⟨S4096x8192, .i8⟩
  | .hbm, ⟨2, _⟩ => ⟨S1024x8192, .bf16⟩
  | .hbm, ⟨3, _⟩ => ⟨S1024x8192, .bf16⟩
  | .hbm, ⟨4, _⟩ => ⟨S8x16384, .bf16⟩
  | .hbm, ⟨5, _⟩ => ⟨S8x8192, .bf16⟩
  | .local _ .vmem, ⟨0, _⟩ => ⟨S8x16384, .bf16⟩
  | .local _ .vmem, ⟨1, _⟩ => ⟨S4096x512, .i8⟩
  | .local _ .vmem, ⟨2, _⟩ => ⟨S4096x512, .i8⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S8x512, .bf16⟩
  | .local _ .vmem, ⟨8, _⟩ => ⟨S8x512, .bf16⟩
  | .local _ .vmem, ⟨9, _⟩ => ⟨S2x8x8192, .bf16⟩
  | .local _ .vmem, ⟨10, _⟩ => ⟨S4x2x2x256x128, .bf16⟩
  | .local _ .vmem, ⟨11, _⟩ => ⟨S4x2x2x256x128, .bf16⟩
  | _, _ => ⟨S8x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32_1 : BitVec 32 := 0#32
  let c16_i32 : BitVec 32 := 16#32
  let v4 : BitVec 32 := Scalar.addi c0_i32_1 c16_i32
  let c1_i32 : BitVec 32 := 1#32
  ⟨c0_i32_1, v4, c1_i32⟩
def k0_mult1 (k0_t1 : Fin k0_t1_loop.trips) : BitVec 32 :=
  let c16_i32_11 : BitVec 32 := 16#32
  let c0_i32_1 : BitVec 32 := 0#32
  let c1_i32 : BitVec 32 := 1#32
  let arg9 : BitVec 32 := Scf.iv c0_i32_1 c1_i32 k0_t1
  let v15 : BitVec 32 := Scalar.muli c16_i32_11 arg9
  v15
def k0_mult2 (k0_t1 : Fin k0_t1_loop.trips) : BitVec 32 :=
  let c0_i32_12 : BitVec 32 := 0#32
  let c16_i32_11 : BitVec 32 := 16#32
  let c0_i32_1 : BitVec 32 := 0#32
  let c1_i32 : BitVec 32 := 1#32
  let arg9 : BitVec 32 := Scf.iv c0_i32_1 c1_i32 k0_t1
  let v15 : BitVec 32 := Scalar.muli c16_i32_11 arg9
  let v16 : BitVec 32 := v15
  let v17 : BitVec 32 := Scalar.addi c0_i32_12 v16
  v17
def k0_off1 (k0_t1 : Fin k0_t1_loop.trips) (c0_i32_12 : BitVec 32) : Fin 2 → Nat :=
  let c16_i32_11 : BitVec 32 := 16#32
  let c0_i32_1 : BitVec 32 := 0#32
  let c1_i32 : BitVec 32 := 1#32
  let arg9 : BitVec 32 := Scf.iv c0_i32_1 c1_i32 k0_t1
  let v15 : BitVec 32 := Scalar.muli c16_i32_11 arg9
  let v16 : BitVec 32 := v15
  let v17 : BitVec 32 := Scalar.addi c0_i32_12 v16
  let v18 : BitVec 32 := v17
  let v19 : Index := Scalar.indexCast v18
  let c0_13 : Index := 0#32
  ![v19.toNat, 0]
def k0_mult3 (k0_t1 : Fin k0_t1_loop.trips) : BitVec 32 :=
  let c512_i32 : BitVec 32 := 512#32
  let c16_i32_11 : BitVec 32 := 16#32
  let c0_i32_1 : BitVec 32 := 0#32
  let c1_i32 : BitVec 32 := 1#32
  let arg9 : BitVec 32 := Scf.iv c0_i32_1 c1_i32 k0_t1
  let v15 : BitVec 32 := Scalar.muli c16_i32_11 arg9
  let v16 : BitVec 32 := v15
  let v22 : BitVec 32 := Scalar.addi c512_i32 v16
  v22
def k0_mult4 (k0_t1 : Fin k0_t1_loop.trips) : BitVec 32 :=
  let c8_i32 : BitVec 32 := 8#32
  let c0_i32_1 : BitVec 32 := 0#32
  let c1_i32 : BitVec 32 := 1#32
  let arg9 : BitVec 32 := Scf.iv c0_i32_1 c1_i32 k0_t1
  let v37 : BitVec 32 := Scalar.muli c8_i32 arg9
  v37
def k0_off2 (k0_t1 : Fin k0_t1_loop.trips) : Fin 5 → Nat :=
  let c0_17 : Index := 0#32
  let c0_18 : Index := 0#32
  let c0_19 : Index := 0#32
  let c8_i32 : BitVec 32 := 8#32
  let c0_i32_1 : BitVec 32 := 0#32
  let c1_i32 : BitVec 32 := 1#32
  let arg9 : BitVec 32 := Scf.iv c0_i32_1 c1_i32 k0_t1
  let v37 : BitVec 32 := Scalar.muli c8_i32 arg9
  let v38 : BitVec 32 := v37
  let v40 : Index := Scalar.indexCast v38
  let c0_20 : Index := 0#32
  ![0, 0, 0, Nat.mul 2 v40.toNat, 0]
def k0_mult5 (k0_t1 : Fin k0_t1_loop.trips) : BitVec 32 :=
  let c8_i32_21 : BitVec 32 := 8#32
  let c0_i32_1 : BitVec 32 := 0#32
  let c1_i32 : BitVec 32 := 1#32
  let arg9 : BitVec 32 := Scf.iv c0_i32_1 c1_i32 k0_t1
  let v44 : BitVec 32 := Scalar.muli c8_i32_21 arg9
  v44
def k0_off3 (k0_t1 : Fin k0_t1_loop.trips) : Fin 5 → Nat :=
  let c0_22 : Index := 0#32
  let c0_23 : Index := 0#32
  let c1 : Index := 1#32
  let c8_i32_21 : BitVec 32 := 8#32
  let c0_i32_1 : BitVec 32 := 0#32
  let c1_i32 : BitVec 32 := 1#32
  let arg9 : BitVec 32 := Scf.iv c0_i32_1 c1_i32 k0_t1
  let v44 : BitVec 32 := Scalar.muli c8_i32_21 arg9
  let v45 : BitVec 32 := v44
  let v47 : Index := Scalar.indexCast v45
  let c0_24 : Index := 0#32
  ![0, 0, 1, Nat.mul 2 v47.toNat, 0]
def k0_mult6 (k0_t1 : Fin k0_t1_loop.trips) : BitVec 32 :=
  let c16_i32_25 : BitVec 32 := 16#32
  let c0_i32_1 : BitVec 32 := 0#32
  let c1_i32 : BitVec 32 := 1#32
  let arg9 : BitVec 32 := Scf.iv c0_i32_1 c1_i32 k0_t1
  let v51 : BitVec 32 := Scalar.muli c16_i32_25 arg9
  v51
def k0_mult7 (k0_t1 : Fin k0_t1_loop.trips) : BitVec 32 :=
  let c0_i32_26 : BitVec 32 := 0#32
  let c16_i32_25 : BitVec 32 := 16#32
  let c0_i32_1 : BitVec 32 := 0#32
  let c1_i32 : BitVec 32 := 1#32
  let arg9 : BitVec 32 := Scf.iv c0_i32_1 c1_i32 k0_t1
  let v51 : BitVec 32 := Scalar.muli c16_i32_25 arg9
  let v52 : BitVec 32 := v51
  let v53 : BitVec 32 := Scalar.addi c0_i32_26 v52
  v53
def k0_mult8 (k0_t1 : Fin k0_t1_loop.trips) : BitVec 32 :=
  let c512_i32_28 : BitVec 32 := 512#32
  let c16_i32_25 : BitVec 32 := 16#32
  let c0_i32_1 : BitVec 32 := 0#32
  let c1_i32 : BitVec 32 := 1#32
  let arg9 : BitVec 32 := Scf.iv c0_i32_1 c1_i32 k0_t1
  let v51 : BitVec 32 := Scalar.muli c16_i32_25 arg9
  let v52 : BitVec 32 := v51
  let v58 : BitVec 32 := Scalar.addi c512_i32_28 v52
  v58
def k0_mult9 (k0_t1 : Fin k0_t1_loop.trips) : BitVec 32 :=
  let c8_i32_34 : BitVec 32 := 8#32
  let c0_i32_1 : BitVec 32 := 0#32
  let c1_i32 : BitVec 32 := 1#32
  let arg9 : BitVec 32 := Scf.iv c0_i32_1 c1_i32 k0_t1
  let v73 : BitVec 32 := Scalar.muli c8_i32_34 arg9
  v73
def k0_mult10 (k0_t1 : Fin k0_t1_loop.trips) : BitVec 32 :=
  let c8_i32_39 : BitVec 32 := 8#32
  let c0_i32_1 : BitVec 32 := 0#32
  let c1_i32 : BitVec 32 := 1#32
  let arg9 : BitVec 32 := Scf.iv c0_i32_1 c1_i32 k0_t1
  let v80 : BitVec 32 := Scalar.muli c8_i32_39 arg9
  v80
def k0_mult11 (k0_t1 : Fin k0_t1_loop.trips) : BitVec 32 :=
  let c16_i32_44 : BitVec 32 := 16#32
  let c0_i32_1 : BitVec 32 := 0#32
  let c1_i32 : BitVec 32 := 1#32
  let arg9 : BitVec 32 := Scf.iv c0_i32_1 c1_i32 k0_t1
  let v87 : BitVec 32 := Scalar.muli c16_i32_44 arg9
  v87
def k0_mult12 (k0_t1 : Fin k0_t1_loop.trips) : BitVec 32 :=
  let c0_i32_45 : BitVec 32 := 0#32
  let c16_i32_44 : BitVec 32 := 16#32
  let c0_i32_1 : BitVec 32 := 0#32
  let c1_i32 : BitVec 32 := 1#32
  let arg9 : BitVec 32 := Scf.iv c0_i32_1 c1_i32 k0_t1
  let v87 : BitVec 32 := Scalar.muli c16_i32_44 arg9
  let v88 : BitVec 32 := v87
  let v89 : BitVec 32 := Scalar.addi c0_i32_45 v88
  v89
def k0_off4 (k0_t1 : Fin k0_t1_loop.trips) (c0_i32_45 : BitVec 32) : Fin 2 → Nat :=
  let c16_i32_44 : BitVec 32 := 16#32
  let c0_i32_1 : BitVec 32 := 0#32
  let c1_i32 : BitVec 32 := 1#32
  let arg9 : BitVec 32 := Scf.iv c0_i32_1 c1_i32 k0_t1
  let v87 : BitVec 32 := Scalar.muli c16_i32_44 arg9
  let v88 : BitVec 32 := v87
  let v89 : BitVec 32 := Scalar.addi c0_i32_45 v88
  let v90 : BitVec 32 := v89
  let v91 : Index := Scalar.indexCast v90
  let c128 : Index := 128#32
  ![v91.toNat, 128]
def k0_mult13 (k0_t1 : Fin k0_t1_loop.trips) : BitVec 32 :=
  let c512_i32_46 : BitVec 32 := 512#32
  let c16_i32_44 : BitVec 32 := 16#32
  let c0_i32_1 : BitVec 32 := 0#32
  let c1_i32 : BitVec 32 := 1#32
  let arg9 : BitVec 32 := Scf.iv c0_i32_1 c1_i32 k0_t1
  let v87 : BitVec 32 := Scalar.muli c16_i32_44 arg9
  let v88 : BitVec 32 := v87
  let v94 : BitVec 32 := Scalar.addi c512_i32_46 v88
  v94
def k0_mult14 (k0_t1 : Fin k0_t1_loop.trips) : BitVec 32 :=
  let c8_i32_52 : BitVec 32 := 8#32
  let c0_i32_1 : BitVec 32 := 0#32
  let c1_i32 : BitVec 32 := 1#32
  let arg9 : BitVec 32 := Scf.iv c0_i32_1 c1_i32 k0_t1
  let v109 : BitVec 32 := Scalar.muli c8_i32_52 arg9
  v109
def k0_off5 (k0_t1 : Fin k0_t1_loop.trips) : Fin 5 → Nat :=
  let c1_53 : Index := 1#32
  let c0_54 : Index := 0#32
  let c0_55 : Index := 0#32
  let c8_i32_52 : BitVec 32 := 8#32
  let c0_i32_1 : BitVec 32 := 0#32
  let c1_i32 : BitVec 32 := 1#32
  let arg9 : BitVec 32 := Scf.iv c0_i32_1 c1_i32 k0_t1
  let v109 : BitVec 32 := Scalar.muli c8_i32_52 arg9
  let v110 : BitVec 32 := v109
  let v112 : Index := Scalar.indexCast v110
  let c0_56 : Index := 0#32
  ![1, 0, 0, Nat.mul 2 v112.toNat, 0]
def k0_mult15 (k0_t1 : Fin k0_t1_loop.trips) : BitVec 32 :=
  let c8_i32_57 : BitVec 32 := 8#32
  let c0_i32_1 : BitVec 32 := 0#32
  let c1_i32 : BitVec 32 := 1#32
  let arg9 : BitVec 32 := Scf.iv c0_i32_1 c1_i32 k0_t1
  let v116 : BitVec 32 := Scalar.muli c8_i32_57 arg9
  v116
def k0_off6 (k0_t1 : Fin k0_t1_loop.trips) : Fin 5 → Nat :=
  let c1_58 : Index := 1#32
  let c0_59 : Index := 0#32
  let c1_60 : Index := 1#32
  let c8_i32_57 : BitVec 32 := 8#32
  let c0_i32_1 : BitVec 32 := 0#32
  let c1_i32 : BitVec 32 := 1#32
  let arg9 : BitVec 32 := Scf.iv c0_i32_1 c1_i32 k0_t1
  let v116 : BitVec 32 := Scalar.muli c8_i32_57 arg9
  let v117 : BitVec 32 := v116
  let v119 : Index := Scalar.indexCast v117
  let c0_61 : Index := 0#32
  ![1, 0, 1, Nat.mul 2 v119.toNat, 0]
def k0_mult16 (k0_t1 : Fin k0_t1_loop.trips) : BitVec 32 :=
  let c16_i32_62 : BitVec 32 := 16#32
  let c0_i32_1 : BitVec 32 := 0#32
  let c1_i32 : BitVec 32 := 1#32
  let arg9 : BitVec 32 := Scf.iv c0_i32_1 c1_i32 k0_t1
  let v123 : BitVec 32 := Scalar.muli c16_i32_62 arg9
  v123
def k0_mult17 (k0_t1 : Fin k0_t1_loop.trips) : BitVec 32 :=
  let c0_i32_63 : BitVec 32 := 0#32
  let c16_i32_62 : BitVec 32 := 16#32
  let c0_i32_1 : BitVec 32 := 0#32
  let c1_i32 : BitVec 32 := 1#32
  let arg9 : BitVec 32 := Scf.iv c0_i32_1 c1_i32 k0_t1
  let v123 : BitVec 32 := Scalar.muli c16_i32_62 arg9
  let v124 : BitVec 32 := v123
  let v125 : BitVec 32 := Scalar.addi c0_i32_63 v124
  v125
def k0_mult18 (k0_t1 : Fin k0_t1_loop.trips) : BitVec 32 :=
  let c512_i32_65 : BitVec 32 := 512#32
  let c16_i32_62 : BitVec 32 := 16#32
  let c0_i32_1 : BitVec 32 := 0#32
  let c1_i32 : BitVec 32 := 1#32
  let arg9 : BitVec 32 := Scf.iv c0_i32_1 c1_i32 k0_t1
  let v123 : BitVec 32 := Scalar.muli c16_i32_62 arg9
  let v124 : BitVec 32 := v123
  let v130 : BitVec 32 := Scalar.addi c512_i32_65 v124
  v130
def k0_mult19 (k0_t1 : Fin k0_t1_loop.trips) : BitVec 32 :=
  let c8_i32_71 : BitVec 32 := 8#32
  let c0_i32_1 : BitVec 32 := 0#32
  let c1_i32 : BitVec 32 := 1#32
  let arg9 : BitVec 32 := Scf.iv c0_i32_1 c1_i32 k0_t1
  let v145 : BitVec 32 := Scalar.muli c8_i32_71 arg9
  v145
def k0_mult20 (k0_t1 : Fin k0_t1_loop.trips) : BitVec 32 :=
  let c8_i32_76 : BitVec 32 := 8#32
  let c0_i32_1 : BitVec 32 := 0#32
  let c1_i32 : BitVec 32 := 1#32
  let arg9 : BitVec 32 := Scf.iv c0_i32_1 c1_i32 k0_t1
  let v152 : BitVec 32 := Scalar.muli c8_i32_76 arg9
  v152
def k0_mult21 (k0_t1 : Fin k0_t1_loop.trips) : BitVec 32 :=
  let c16_i32_81 : BitVec 32 := 16#32
  let c0_i32_1 : BitVec 32 := 0#32
  let c1_i32 : BitVec 32 := 1#32
  let arg9 : BitVec 32 := Scf.iv c0_i32_1 c1_i32 k0_t1
  let v159 : BitVec 32 := Scalar.muli c16_i32_81 arg9
  v159
def k0_mult22 (k0_t1 : Fin k0_t1_loop.trips) : BitVec 32 :=
  let c256_i32 : BitVec 32 := 256#32
  let c16_i32_81 : BitVec 32 := 16#32
  let c0_i32_1 : BitVec 32 := 0#32
  let c1_i32 : BitVec 32 := 1#32
  let arg9 : BitVec 32 := Scf.iv c0_i32_1 c1_i32 k0_t1
  let v159 : BitVec 32 := Scalar.muli c16_i32_81 arg9
  let v160 : BitVec 32 := v159
  let v161 : BitVec 32 := Scalar.addi c256_i32 v160
  v161
def k0_mult23 (k0_t1 : Fin k0_t1_loop.trips) : BitVec 32 :=
  let c768_i32 : BitVec 32 := 768#32
  let c16_i32_81 : BitVec 32 := 16#32
  let c0_i32_1 : BitVec 32 := 0#32
  let c1_i32 : BitVec 32 := 1#32
  let arg9 : BitVec 32 := Scf.iv c0_i32_1 c1_i32 k0_t1
  let v159 : BitVec 32 := Scalar.muli c16_i32_81 arg9
  let v160 : BitVec 32 := v159
  let v166 : BitVec 32 := Scalar.addi c768_i32 v160
  v166
def k0_mult24 (k0_t1 : Fin k0_t1_loop.trips) : BitVec 32 :=
  let c8_i32_88 : BitVec 32 := 8#32
  let c0_i32_1 : BitVec 32 := 0#32
  let c1_i32 : BitVec 32 := 1#32
  let arg9 : BitVec 32 := Scf.iv c0_i32_1 c1_i32 k0_t1
  let v181 : BitVec 32 := Scalar.muli c8_i32_88 arg9
  v181
def k0_off7 (k0_t1 : Fin k0_t1_loop.trips) : Fin 5 → Nat :=
  let c0_89 : Index := 0#32
  let c1_90 : Index := 1#32
  let c0_91 : Index := 0#32
  let c8_i32_88 : BitVec 32 := 8#32
  let c0_i32_1 : BitVec 32 := 0#32
  let c1_i32 : BitVec 32 := 1#32
  let arg9 : BitVec 32 := Scf.iv c0_i32_1 c1_i32 k0_t1
  let v181 : BitVec 32 := Scalar.muli c8_i32_88 arg9
  let v182 : BitVec 32 := v181
  let v184 : Index := Scalar.indexCast v182
  let c0_92 : Index := 0#32
  ![0, 1, 0, Nat.mul 2 v184.toNat, 0]
def k0_mult25 (k0_t1 : Fin k0_t1_loop.trips) : BitVec 32 :=
  let c8_i32_93 : BitVec 32 := 8#32
  let c0_i32_1 : BitVec 32 := 0#32
  let c1_i32 : BitVec 32 := 1#32
  let arg9 : BitVec 32 := Scf.iv c0_i32_1 c1_i32 k0_t1
  let v188 : BitVec 32 := Scalar.muli c8_i32_93 arg9
  v188
def k0_off8 (k0_t1 : Fin k0_t1_loop.trips) : Fin 5 → Nat :=
  let c0_94 : Index := 0#32
  let c1_95 : Index := 1#32
  let c1_96 : Index := 1#32
  let c8_i32_93 : BitVec 32 := 8#32
  let c0_i32_1 : BitVec 32 := 0#32
  let c1_i32 : BitVec 32 := 1#32
  let arg9 : BitVec 32 := Scf.iv c0_i32_1 c1_i32 k0_t1
  let v188 : BitVec 32 := Scalar.muli c8_i32_93 arg9
  let v189 : BitVec 32 := v188
  let v191 : Index := Scalar.indexCast v189
  let c0_97 : Index := 0#32
  ![0, 1, 1, Nat.mul 2 v191.toNat, 0]
def k0_mult26 (k0_t1 : Fin k0_t1_loop.trips) : BitVec 32 :=
  let c16_i32_98 : BitVec 32 := 16#32
  let c0_i32_1 : BitVec 32 := 0#32
  let c1_i32 : BitVec 32 := 1#32
  let arg9 : BitVec 32 := Scf.iv c0_i32_1 c1_i32 k0_t1
  let v195 : BitVec 32 := Scalar.muli c16_i32_98 arg9
  v195
def k0_mult27 (k0_t1 : Fin k0_t1_loop.trips) : BitVec 32 :=
  let c256_i32_99 : BitVec 32 := 256#32
  let c16_i32_98 : BitVec 32 := 16#32
  let c0_i32_1 : BitVec 32 := 0#32
  let c1_i32 : BitVec 32 := 1#32
  let arg9 : BitVec 32 := Scf.iv c0_i32_1 c1_i32 k0_t1
  let v195 : BitVec 32 := Scalar.muli c16_i32_98 arg9
  let v196 : BitVec 32 := v195
  let v197 : BitVec 32 := Scalar.addi c256_i32_99 v196
  v197
def k0_mult28 (k0_t1 : Fin k0_t1_loop.trips) : BitVec 32 :=
  let c768_i32_101 : BitVec 32 := 768#32
  let c16_i32_98 : BitVec 32 := 16#32
  let c0_i32_1 : BitVec 32 := 0#32
  let c1_i32 : BitVec 32 := 1#32
  let arg9 : BitVec 32 := Scf.iv c0_i32_1 c1_i32 k0_t1
  let v195 : BitVec 32 := Scalar.muli c16_i32_98 arg9
  let v196 : BitVec 32 := v195
  let v202 : BitVec 32 := Scalar.addi c768_i32_101 v196
  v202
def k0_mult29 (k0_t1 : Fin k0_t1_loop.trips) : BitVec 32 :=
  let c8_i32_107 : BitVec 32 := 8#32
  let c0_i32_1 : BitVec 32 := 0#32
  let c1_i32 : BitVec 32 := 1#32
  let arg9 : BitVec 32 := Scf.iv c0_i32_1 c1_i32 k0_t1
  let v217 : BitVec 32 := Scalar.muli c8_i32_107 arg9
  v217
def k0_mult30 (k0_t1 : Fin k0_t1_loop.trips) : BitVec 32 :=
  let c8_i32_112 : BitVec 32 := 8#32
  let c0_i32_1 : BitVec 32 := 0#32
  let c1_i32 : BitVec 32 := 1#32
  let arg9 : BitVec 32 := Scf.iv c0_i32_1 c1_i32 k0_t1
  let v224 : BitVec 32 := Scalar.muli c8_i32_112 arg9
  v224
def k0_mult31 (k0_t1 : Fin k0_t1_loop.trips) : BitVec 32 :=
  let c16_i32_117 : BitVec 32 := 16#32
  let c0_i32_1 : BitVec 32 := 0#32
  let c1_i32 : BitVec 32 := 1#32
  let arg9 : BitVec 32 := Scf.iv c0_i32_1 c1_i32 k0_t1
  let v231 : BitVec 32 := Scalar.muli c16_i32_117 arg9
  v231
def k0_mult32 (k0_t1 : Fin k0_t1_loop.trips) : BitVec 32 :=
  let c256_i32_118 : BitVec 32 := 256#32
  let c16_i32_117 : BitVec 32 := 16#32
  let c0_i32_1 : BitVec 32 := 0#32
  let c1_i32 : BitVec 32 := 1#32
  let arg9 : BitVec 32 := Scf.iv c0_i32_1 c1_i32 k0_t1
  let v231 : BitVec 32 := Scalar.muli c16_i32_117 arg9
  let v232 : BitVec 32 := v231
  let v233 : BitVec 32 := Scalar.addi c256_i32_118 v232
  v233
def k0_mult33 (k0_t1 : Fin k0_t1_loop.trips) : BitVec 32 :=
  let c768_i32_120 : BitVec 32 := 768#32
  let c16_i32_117 : BitVec 32 := 16#32
  let c0_i32_1 : BitVec 32 := 0#32
  let c1_i32 : BitVec 32 := 1#32
  let arg9 : BitVec 32 := Scf.iv c0_i32_1 c1_i32 k0_t1
  let v231 : BitVec 32 := Scalar.muli c16_i32_117 arg9
  let v232 : BitVec 32 := v231
  let v238 : BitVec 32 := Scalar.addi c768_i32_120 v232
  v238
def k0_mult34 (k0_t1 : Fin k0_t1_loop.trips) : BitVec 32 :=
  let c8_i32_126 : BitVec 32 := 8#32
  let c0_i32_1 : BitVec 32 := 0#32
  let c1_i32 : BitVec 32 := 1#32
  let arg9 : BitVec 32 := Scf.iv c0_i32_1 c1_i32 k0_t1
  let v253 : BitVec 32 := Scalar.muli c8_i32_126 arg9
  v253
def k0_off9 (k0_t1 : Fin k0_t1_loop.trips) : Fin 5 → Nat :=
  let c1_127 : Index := 1#32
  let c1_128 : Index := 1#32
  let c0_129 : Index := 0#32
  let c8_i32_126 : BitVec 32 := 8#32
  let c0_i32_1 : BitVec 32 := 0#32
  let c1_i32 : BitVec 32 := 1#32
  let arg9 : BitVec 32 := Scf.iv c0_i32_1 c1_i32 k0_t1
  let v253 : BitVec 32 := Scalar.muli c8_i32_126 arg9
  let v254 : BitVec 32 := v253
  let v256 : Index := Scalar.indexCast v254
  let c0_130 : Index := 0#32
  ![1, 1, 0, Nat.mul 2 v256.toNat, 0]
def k0_mult35 (k0_t1 : Fin k0_t1_loop.trips) : BitVec 32 :=
  let c8_i32_131 : BitVec 32 := 8#32
  let c0_i32_1 : BitVec 32 := 0#32
  let c1_i32 : BitVec 32 := 1#32
  let arg9 : BitVec 32 := Scf.iv c0_i32_1 c1_i32 k0_t1
  let v260 : BitVec 32 := Scalar.muli c8_i32_131 arg9
  v260
def k0_off10 (k0_t1 : Fin k0_t1_loop.trips) : Fin 5 → Nat :=
  let c1_132 : Index := 1#32
  let c1_133 : Index := 1#32
  let c1_134 : Index := 1#32
  let c8_i32_131 : BitVec 32 := 8#32
  let c0_i32_1 : BitVec 32 := 0#32
  let c1_i32 : BitVec 32 := 1#32
  let arg9 : BitVec 32 := Scf.iv c0_i32_1 c1_i32 k0_t1
  let v260 : BitVec 32 := Scalar.muli c8_i32_131 arg9
  let v261 : BitVec 32 := v260
  let v263 : Index := Scalar.indexCast v261
  let c0_135 : Index := 0#32
  ![1, 1, 1, Nat.mul 2 v263.toNat, 0]
def k0_mult36 (k0_t1 : Fin k0_t1_loop.trips) : BitVec 32 :=
  let c16_i32_136 : BitVec 32 := 16#32
  let c0_i32_1 : BitVec 32 := 0#32
  let c1_i32 : BitVec 32 := 1#32
  let arg9 : BitVec 32 := Scf.iv c0_i32_1 c1_i32 k0_t1
  let v267 : BitVec 32 := Scalar.muli c16_i32_136 arg9
  v267
def k0_mult37 (k0_t1 : Fin k0_t1_loop.trips) : BitVec 32 :=
  let c256_i32_137 : BitVec 32 := 256#32
  let c16_i32_136 : BitVec 32 := 16#32
  let c0_i32_1 : BitVec 32 := 0#32
  let c1_i32 : BitVec 32 := 1#32
  let arg9 : BitVec 32 := Scf.iv c0_i32_1 c1_i32 k0_t1
  let v267 : BitVec 32 := Scalar.muli c16_i32_136 arg9
  let v268 : BitVec 32 := v267
  let v269 : BitVec 32 := Scalar.addi c256_i32_137 v268
  v269
def k0_mult38 (k0_t1 : Fin k0_t1_loop.trips) : BitVec 32 :=
  let c768_i32_139 : BitVec 32 := 768#32
  let c16_i32_136 : BitVec 32 := 16#32
  let c0_i32_1 : BitVec 32 := 0#32
  let c1_i32 : BitVec 32 := 1#32
  let arg9 : BitVec 32 := Scf.iv c0_i32_1 c1_i32 k0_t1
  let v267 : BitVec 32 := Scalar.muli c16_i32_136 arg9
  let v268 : BitVec 32 := v267
  let v274 : BitVec 32 := Scalar.addi c768_i32_139 v268
  v274
def k0_mult39 (k0_t1 : Fin k0_t1_loop.trips) : BitVec 32 :=
  let c8_i32_145 : BitVec 32 := 8#32
  let c0_i32_1 : BitVec 32 := 0#32
  let c1_i32 : BitVec 32 := 1#32
  let arg9 : BitVec 32 := Scf.iv c0_i32_1 c1_i32 k0_t1
  let v289 : BitVec 32 := Scalar.muli c8_i32_145 arg9
  v289
def k0_mult40 (k0_t1 : Fin k0_t1_loop.trips) : BitVec 32 :=
  let c8_i32_150 : BitVec 32 := 8#32
  let c0_i32_1 : BitVec 32 := 0#32
  let c1_i32 : BitVec 32 := 1#32
  let arg9 : BitVec 32 := Scf.iv c0_i32_1 c1_i32 k0_t1
  let v296 : BitVec 32 := Scalar.muli c8_i32_150 arg9
  v296
def k0_mult41 (k0_t1 : Fin k0_t1_loop.trips) : BitVec 32 :=
  let c2_i32 : BitVec 32 := 2#32
  let c0_i32_1 : BitVec 32 := 0#32
  let c1_i32 : BitVec 32 := 1#32
  let arg9 : BitVec 32 := Scf.iv c0_i32_1 c1_i32 k0_t1
  let v13 : BitVec 32 := Scalar.muli c2_i32 arg9
  let c0_i32_10 : BitVec 32 := 0#32
  let v14 : BitVec 32 := Scalar.addi v13 c0_i32_10
  let c128_i32 : BitVec 32 := 128#32
  let v303 : BitVec 32 := Scalar.muli v14 c128_i32
  let c0_i32_155 : BitVec 32 := 0#32
  let v304 : BitVec 32 := Scalar.addi v303 c0_i32_155
  v304
def k0_off11 (k0_t1 : Fin k0_t1_loop.trips) (c0_i32_10 : BitVec 32) (c0_i32_155 : BitVec 32) : Fin 2 → Nat :=
  let c2_i32 : BitVec 32 := 2#32
  let c0_i32_1 : BitVec 32 := 0#32
  let c1_i32 : BitVec 32 := 1#32
  let arg9 : BitVec 32 := Scf.iv c0_i32_1 c1_i32 k0_t1
  let v13 : BitVec 32 := Scalar.muli c2_i32 arg9
  let v14 : BitVec 32 := Scalar.addi v13 c0_i32_10
  let c128_i32 : BitVec 32 := 128#32
  let v303 : BitVec 32 := Scalar.muli v14 c128_i32
  let v304 : BitVec 32 := Scalar.addi v303 c0_i32_155
  let v305 : BitVec 32 := v304
  let v306 : Index := Scalar.indexCast v305
  let c0_156 : Index := 0#32
  ![v306.toNat, 0]
def k0_off12 (k0_t1 : Fin k0_t1_loop.trips) (c0_i32_158 : BitVec 32) (c0_i32_159 : BitVec 32) : Fin 5 → Nat :=
  let c0_160 : Index := 0#32
  let c0_161 : Index := 0#32
  let c0_162 : Index := 0#32
  let c0_i32_1 : BitVec 32 := 0#32
  let c1_i32 : BitVec 32 := 1#32
  let arg9 : BitVec 32 := Scf.iv c0_i32_1 c1_i32 k0_t1
  let c8_i32_157 : BitVec 32 := 8#32
  let v321 : BitVec 32 := Scalar.muli arg9 c8_i32_157
  let v322 : BitVec 32 := Scalar.addi v321 c0_i32_158
  let v323 : BitVec 32 := Scalar.addi v322 c0_i32_159
  let v325 : Index := Scalar.indexCast v323
  let c0_163 : Index := 0#32
  ![0, 0, 0, Nat.mul 2 v325.toNat, 0]
def k0_off13 (k0_t1 : Fin k0_t1_loop.trips) (c0_i32_172 : BitVec 32) (c0_i32_173 : BitVec 32) : Fin 5 → Nat :=
  let c0_174 : Index := 0#32
  let c0_175 : Index := 0#32
  let c1_176 : Index := 1#32
  let c0_i32_1 : BitVec 32 := 0#32
  let c1_i32 : BitVec 32 := 1#32
  let arg9 : BitVec 32 := Scf.iv c0_i32_1 c1_i32 k0_t1
  let c8_i32_171 : BitVec 32 := 8#32
  let v345 : BitVec 32 := Scalar.muli arg9 c8_i32_171
  let v346 : BitVec 32 := Scalar.addi v345 c0_i32_172
  let v347 : BitVec 32 := Scalar.addi v346 c0_i32_173
  let v349 : Index := Scalar.indexCast v347
  let c0_177 : Index := 0#32
  ![0, 0, 1, Nat.mul 2 v349.toNat, 0]
def k0_off14 (k0_t1 : Fin k0_t1_loop.trips) (c0_i32_190 : BitVec 32) (c0_i32_191 : BitVec 32) : Fin 5 → Nat :=
  let c0_192 : Index := 0#32
  let c1_193 : Index := 1#32
  let c0_194 : Index := 0#32
  let c0_i32_1 : BitVec 32 := 0#32
  let c1_i32 : BitVec 32 := 1#32
  let arg9 : BitVec 32 := Scf.iv c0_i32_1 c1_i32 k0_t1
  let c8_i32_189 : BitVec 32 := 8#32
  let v383 : BitVec 32 := Scalar.muli arg9 c8_i32_189
  let v384 : BitVec 32 := Scalar.addi v383 c0_i32_190
  let v385 : BitVec 32 := Scalar.addi v384 c0_i32_191
  let v387 : Index := Scalar.indexCast v385
  let c0_195 : Index := 0#32
  ![0, 1, 0, Nat.mul 2 v387.toNat, 0]
def k0_off15 (k0_t1 : Fin k0_t1_loop.trips) (c0_i32_204 : BitVec 32) (c0_i32_205 : BitVec 32) : Fin 5 → Nat :=
  let c0_206 : Index := 0#32
  let c1_207 : Index := 1#32
  let c1_208 : Index := 1#32
  let c0_i32_1 : BitVec 32 := 0#32
  let c1_i32 : BitVec 32 := 1#32
  let arg9 : BitVec 32 := Scf.iv c0_i32_1 c1_i32 k0_t1
  let c8_i32_203 : BitVec 32 := 8#32
  let v407 : BitVec 32 := Scalar.muli arg9 c8_i32_203
  let v408 : BitVec 32 := Scalar.addi v407 c0_i32_204
  let v409 : BitVec 32 := Scalar.addi v408 c0_i32_205
  let v411 : Index := Scalar.indexCast v409
  let c0_209 : Index := 0#32
  ![0, 1, 1, Nat.mul 2 v411.toNat, 0]
def k0_mult42 (k0_t1 : Fin k0_t1_loop.trips) : BitVec 32 :=
  let c2_i32 : BitVec 32 := 2#32
  let c0_i32_1 : BitVec 32 := 0#32
  let c1_i32 : BitVec 32 := 1#32
  let arg9 : BitVec 32 := Scf.iv c0_i32_1 c1_i32 k0_t1
  let v13 : BitVec 32 := Scalar.muli c2_i32 arg9
  let c0_i32_10 : BitVec 32 := 0#32
  let v14 : BitVec 32 := Scalar.addi v13 c0_i32_10
  let c128_i32_217 : BitVec 32 := 128#32
  let v431 : BitVec 32 := Scalar.muli v14 c128_i32_217
  let c32_i32 : BitVec 32 := 32#32
  let v432 : BitVec 32 := Scalar.addi v431 c32_i32
  v432
def k0_mult43 (k0_t1 : Fin k0_t1_loop.trips) : BitVec 32 :=
  let c2_i32 : BitVec 32 := 2#32
  let c0_i32_1 : BitVec 32 := 0#32
  let c1_i32 : BitVec 32 := 1#32
  let arg9 : BitVec 32 := Scf.iv c0_i32_1 c1_i32 k0_t1
  let v13 : BitVec 32 := Scalar.muli c2_i32 arg9
  let c0_i32_10 : BitVec 32 := 0#32
  let v14 : BitVec 32 := Scalar.addi v13 c0_i32_10
  let c128_i32_282 : BitVec 32 := 128#32
  let v559 : BitVec 32 := Scalar.muli v14 c128_i32_282
  let c64_i32 : BitVec 32 := 64#32
  let v560 : BitVec 32 := Scalar.addi v559 c64_i32
  v560
def k0_mult44 (k0_t1 : Fin k0_t1_loop.trips) : BitVec 32 :=
  let c2_i32 : BitVec 32 := 2#32
  let c0_i32_1 : BitVec 32 := 0#32
  let c1_i32 : BitVec 32 := 1#32
  let arg9 : BitVec 32 := Scf.iv c0_i32_1 c1_i32 k0_t1
  let v13 : BitVec 32 := Scalar.muli c2_i32 arg9
  let c0_i32_10 : BitVec 32 := 0#32
  let v14 : BitVec 32 := Scalar.addi v13 c0_i32_10
  let c128_i32_347 : BitVec 32 := 128#32
  let v687 : BitVec 32 := Scalar.muli v14 c128_i32_347
  let c96_i32 : BitVec 32 := 96#32
  let v688 : BitVec 32 := Scalar.addi v687 c96_i32
  v688
def k0_mult45 (k0_t1 : Fin k0_t1_loop.trips) : BitVec 32 :=
  let c2_i32 : BitVec 32 := 2#32
  let c0_i32_1 : BitVec 32 := 0#32
  let c1_i32 : BitVec 32 := 1#32
  let arg9 : BitVec 32 := Scf.iv c0_i32_1 c1_i32 k0_t1
  let v13 : BitVec 32 := Scalar.muli c2_i32 arg9
  let c0_i32_10 : BitVec 32 := 0#32
  let v14 : BitVec 32 := Scalar.addi v13 c0_i32_10
  let c128_i32_411 : BitVec 32 := 128#32
  let v815 : BitVec 32 := Scalar.muli v14 c128_i32_411
  let c0_i32_412 : BitVec 32 := 0#32
  let v816 : BitVec 32 := Scalar.addi v815 c0_i32_412
  v816
def k0_off16 (k0_t1 : Fin k0_t1_loop.trips) (c0_i32_10 : BitVec 32) (c0_i32_412 : BitVec 32) : Fin 2 → Nat :=
  let c2_i32 : BitVec 32 := 2#32
  let c0_i32_1 : BitVec 32 := 0#32
  let c1_i32 : BitVec 32 := 1#32
  let arg9 : BitVec 32 := Scf.iv c0_i32_1 c1_i32 k0_t1
  let v13 : BitVec 32 := Scalar.muli c2_i32 arg9
  let v14 : BitVec 32 := Scalar.addi v13 c0_i32_10
  let c128_i32_411 : BitVec 32 := 128#32
  let v815 : BitVec 32 := Scalar.muli v14 c128_i32_411
  let v816 : BitVec 32 := Scalar.addi v815 c0_i32_412
  let v817 : BitVec 32 := v816
  let v818 : Index := Scalar.indexCast v817
  let c128_413 : Index := 128#32
  ![v818.toNat, 128]
def k0_off17 (k0_t1 : Fin k0_t1_loop.trips) (c0_i32_418 : BitVec 32) (c0_i32_419 : BitVec 32) : Fin 5 → Nat :=
  let c1_420 : Index := 1#32
  let c0_421 : Index := 0#32
  let c0_422 : Index := 0#32
  let c0_i32_1 : BitVec 32 := 0#32
  let c1_i32 : BitVec 32 := 1#32
  let arg9 : BitVec 32 := Scf.iv c0_i32_1 c1_i32 k0_t1
  let c8_i32_417 : BitVec 32 := 8#32
  let v833 : BitVec 32 := Scalar.muli arg9 c8_i32_417
  let v834 : BitVec 32 := Scalar.addi v833 c0_i32_418
  let v835 : BitVec 32 := Scalar.addi v834 c0_i32_419
  let v837 : Index := Scalar.indexCast v835
  let c0_423 : Index := 0#32
  ![1, 0, 0, Nat.mul 2 v837.toNat, 0]
def k0_off18 (k0_t1 : Fin k0_t1_loop.trips) (c0_i32_432 : BitVec 32) (c0_i32_433 : BitVec 32) : Fin 5 → Nat :=
  let c1_434 : Index := 1#32
  let c0_435 : Index := 0#32
  let c1_436 : Index := 1#32
  let c0_i32_1 : BitVec 32 := 0#32
  let c1_i32 : BitVec 32 := 1#32
  let arg9 : BitVec 32 := Scf.iv c0_i32_1 c1_i32 k0_t1
  let c8_i32_431 : BitVec 32 := 8#32
  let v857 : BitVec 32 := Scalar.muli arg9 c8_i32_431
  let v858 : BitVec 32 := Scalar.addi v857 c0_i32_432
  let v859 : BitVec 32 := Scalar.addi v858 c0_i32_433
  let v861 : Index := Scalar.indexCast v859
  let c0_437 : Index := 0#32
  ![1, 0, 1, Nat.mul 2 v861.toNat, 0]
def k0_off19 (k0_t1 : Fin k0_t1_loop.trips) (c0_i32_450 : BitVec 32) (c0_i32_451 : BitVec 32) : Fin 5 → Nat :=
  let c1_452 : Index := 1#32
  let c1_453 : Index := 1#32
  let c0_454 : Index := 0#32
  let c0_i32_1 : BitVec 32 := 0#32
  let c1_i32 : BitVec 32 := 1#32
  let arg9 : BitVec 32 := Scf.iv c0_i32_1 c1_i32 k0_t1
  let c8_i32_449 : BitVec 32 := 8#32
  let v895 : BitVec 32 := Scalar.muli arg9 c8_i32_449
  let v896 : BitVec 32 := Scalar.addi v895 c0_i32_450
  let v897 : BitVec 32 := Scalar.addi v896 c0_i32_451
  let v899 : Index := Scalar.indexCast v897
  let c0_455 : Index := 0#32
  ![1, 1, 0, Nat.mul 2 v899.toNat, 0]
def k0_off20 (k0_t1 : Fin k0_t1_loop.trips) (c0_i32_464 : BitVec 32) (c0_i32_465 : BitVec 32) : Fin 5 → Nat :=
  let c1_466 : Index := 1#32
  let c1_467 : Index := 1#32
  let c1_468 : Index := 1#32
  let c0_i32_1 : BitVec 32 := 0#32
  let c1_i32 : BitVec 32 := 1#32
  let arg9 : BitVec 32 := Scf.iv c0_i32_1 c1_i32 k0_t1
  let c8_i32_463 : BitVec 32 := 8#32
  let v919 : BitVec 32 := Scalar.muli arg9 c8_i32_463
  let v920 : BitVec 32 := Scalar.addi v919 c0_i32_464
  let v921 : BitVec 32 := Scalar.addi v920 c0_i32_465
  let v923 : Index := Scalar.indexCast v921
  let c0_469 : Index := 0#32
  ![1, 1, 1, Nat.mul 2 v923.toNat, 0]
def k0_mult46 (k0_t1 : Fin k0_t1_loop.trips) : BitVec 32 :=
  let c2_i32 : BitVec 32 := 2#32
  let c0_i32_1 : BitVec 32 := 0#32
  let c1_i32 : BitVec 32 := 1#32
  let arg9 : BitVec 32 := Scf.iv c0_i32_1 c1_i32 k0_t1
  let v13 : BitVec 32 := Scalar.muli c2_i32 arg9
  let c0_i32_10 : BitVec 32 := 0#32
  let v14 : BitVec 32 := Scalar.addi v13 c0_i32_10
  let c128_i32_477 : BitVec 32 := 128#32
  let v943 : BitVec 32 := Scalar.muli v14 c128_i32_477
  let c32_i32_478 : BitVec 32 := 32#32
  let v944 : BitVec 32 := Scalar.addi v943 c32_i32_478
  v944
def k0_mult47 (k0_t1 : Fin k0_t1_loop.trips) : BitVec 32 :=
  let c2_i32 : BitVec 32 := 2#32
  let c0_i32_1 : BitVec 32 := 0#32
  let c1_i32 : BitVec 32 := 1#32
  let arg9 : BitVec 32 := Scf.iv c0_i32_1 c1_i32 k0_t1
  let v13 : BitVec 32 := Scalar.muli c2_i32 arg9
  let c0_i32_10 : BitVec 32 := 0#32
  let v14 : BitVec 32 := Scalar.addi v13 c0_i32_10
  let c128_i32_543 : BitVec 32 := 128#32
  let v1071 : BitVec 32 := Scalar.muli v14 c128_i32_543
  let c64_i32_544 : BitVec 32 := 64#32
  let v1072 : BitVec 32 := Scalar.addi v1071 c64_i32_544
  v1072
def k0_mult48 (k0_t1 : Fin k0_t1_loop.trips) : BitVec 32 :=
  let c2_i32 : BitVec 32 := 2#32
  let c0_i32_1 : BitVec 32 := 0#32
  let c1_i32 : BitVec 32 := 1#32
  let arg9 : BitVec 32 := Scf.iv c0_i32_1 c1_i32 k0_t1
  let v13 : BitVec 32 := Scalar.muli c2_i32 arg9
  let c0_i32_10 : BitVec 32 := 0#32
  let v14 : BitVec 32 := Scalar.addi v13 c0_i32_10
  let c128_i32_609 : BitVec 32 := 128#32
  let v1199 : BitVec 32 := Scalar.muli v14 c128_i32_609
  let c96_i32_610 : BitVec 32 := 96#32
  let v1200 : BitVec 32 := Scalar.addi v1199 c96_i32_610
  v1200
def k0_mult49 (k0_t1 : Fin k0_t1_loop.trips) : BitVec 32 :=
  let c2_i32 : BitVec 32 := 2#32
  let c0_i32_1 : BitVec 32 := 0#32
  let c1_i32 : BitVec 32 := 1#32
  let arg9 : BitVec 32 := Scf.iv c0_i32_1 c1_i32 k0_t1
  let v13 : BitVec 32 := Scalar.muli c2_i32 arg9
  let c0_i32_10 : BitVec 32 := 0#32
  let v14 : BitVec 32 := Scalar.addi v13 c0_i32_10
  let c256_i32_675 : BitVec 32 := 256#32
  let v1330 : BitVec 32 := Scalar.muli v14 c256_i32_675
  v1330
def k0_off21 (k0_t1 : Fin k0_t1_loop.trips) (c0_i32_10 : BitVec 32) : Fin 3 → Nat :=
  let c0_676 : Index := 0#32
  let c0_677 : Index := 0#32
  let c2_i32 : BitVec 32 := 2#32
  let c0_i32_1 : BitVec 32 := 0#32
  let c1_i32 : BitVec 32 := 1#32
  let arg9 : BitVec 32 := Scf.iv c0_i32_1 c1_i32 k0_t1
  let v13 : BitVec 32 := Scalar.muli c2_i32 arg9
  let v14 : BitVec 32 := Scalar.addi v13 c0_i32_10
  let c256_i32_675 : BitVec 32 := 256#32
  let v1330 : BitVec 32 := Scalar.muli v14 c256_i32_675
  let v1331 : BitVec 32 := v1330
  let v1332 : Index := Scalar.indexCast v1331
  ![0, 0, v1332.toNat]
def k0_mult50 (k0_t1 : Fin k0_t1_loop.trips) : BitVec 32 :=
  let c2_i32 : BitVec 32 := 2#32
  let c0_i32_1 : BitVec 32 := 0#32
  let c1_i32 : BitVec 32 := 1#32
  let arg9 : BitVec 32 := Scf.iv c0_i32_1 c1_i32 k0_t1
  let v13 : BitVec 32 := Scalar.muli c2_i32 arg9
  let c0_i32_10 : BitVec 32 := 0#32
  let v14 : BitVec 32 := Scalar.addi v13 c0_i32_10
  let c256_i32_679 : BitVec 32 := 256#32
  let v1340 : BitVec 32 := Scalar.muli v14 c256_i32_679
  v1340
def k0_off22 (k0_t1 : Fin k0_t1_loop.trips) (c0_i32_10 : BitVec 32) : Fin 3 → Nat :=
  let c1_680 : Index := 1#32
  let c0_681 : Index := 0#32
  let c2_i32 : BitVec 32 := 2#32
  let c0_i32_1 : BitVec 32 := 0#32
  let c1_i32 : BitVec 32 := 1#32
  let arg9 : BitVec 32 := Scf.iv c0_i32_1 c1_i32 k0_t1
  let v13 : BitVec 32 := Scalar.muli c2_i32 arg9
  let v14 : BitVec 32 := Scalar.addi v13 c0_i32_10
  let c256_i32_679 : BitVec 32 := 256#32
  let v1340 : BitVec 32 := Scalar.muli v14 c256_i32_679
  let v1341 : BitVec 32 := v1340
  let v1342 : Index := Scalar.indexCast v1341
  ![1, 0, v1342.toNat]
def k0_mult51 (k0_t1 : Fin k0_t1_loop.trips) : BitVec 32 :=
  let c2_i32_683 : BitVec 32 := 2#32
  let c0_i32_1 : BitVec 32 := 0#32
  let c1_i32 : BitVec 32 := 1#32
  let arg9 : BitVec 32 := Scf.iv c0_i32_1 c1_i32 k0_t1
  let v1347 : BitVec 32 := Scalar.muli c2_i32_683 arg9
  let c1_i32_684 : BitVec 32 := 1#32
  let v1348 : BitVec 32 := Scalar.addi v1347 c1_i32_684
  let c128_i32_685 : BitVec 32 := 128#32
  let v1349 : BitVec 32 := Scalar.muli v1348 c128_i32_685
  let c0_i32_686 : BitVec 32 := 0#32
  let v1350 : BitVec 32 := Scalar.addi v1349 c0_i32_686
  v1350
def k0_mult52 (k0_t1 : Fin k0_t1_loop.trips) : BitVec 32 :=
  let c2_i32_683 : BitVec 32 := 2#32
  let c0_i32_1 : BitVec 32 := 0#32
  let c1_i32 : BitVec 32 := 1#32
  let arg9 : BitVec 32 := Scf.iv c0_i32_1 c1_i32 k0_t1
  let v1347 : BitVec 32 := Scalar.muli c2_i32_683 arg9
  let c1_i32_684 : BitVec 32 := 1#32
  let v1348 : BitVec 32 := Scalar.addi v1347 c1_i32_684
  let c128_i32_751 : BitVec 32 := 128#32
  let v1477 : BitVec 32 := Scalar.muli v1348 c128_i32_751
  let c32_i32_752 : BitVec 32 := 32#32
  let v1478 : BitVec 32 := Scalar.addi v1477 c32_i32_752
  v1478
def k0_mult53 (k0_t1 : Fin k0_t1_loop.trips) : BitVec 32 :=
  let c2_i32_683 : BitVec 32 := 2#32
  let c0_i32_1 : BitVec 32 := 0#32
  let c1_i32 : BitVec 32 := 1#32
  let arg9 : BitVec 32 := Scf.iv c0_i32_1 c1_i32 k0_t1
  let v1347 : BitVec 32 := Scalar.muli c2_i32_683 arg9
  let c1_i32_684 : BitVec 32 := 1#32
  let v1348 : BitVec 32 := Scalar.addi v1347 c1_i32_684
  let c128_i32_817 : BitVec 32 := 128#32
  let v1605 : BitVec 32 := Scalar.muli v1348 c128_i32_817
  let c64_i32_818 : BitVec 32 := 64#32
  let v1606 : BitVec 32 := Scalar.addi v1605 c64_i32_818
  v1606
def k0_mult54 (k0_t1 : Fin k0_t1_loop.trips) : BitVec 32 :=
  let c2_i32_683 : BitVec 32 := 2#32
  let c0_i32_1 : BitVec 32 := 0#32
  let c1_i32 : BitVec 32 := 1#32
  let arg9 : BitVec 32 := Scf.iv c0_i32_1 c1_i32 k0_t1
  let v1347 : BitVec 32 := Scalar.muli c2_i32_683 arg9
  let c1_i32_684 : BitVec 32 := 1#32
  let v1348 : BitVec 32 := Scalar.addi v1347 c1_i32_684
  let c128_i32_883 : BitVec 32 := 128#32
  let v1733 : BitVec 32 := Scalar.muli v1348 c128_i32_883
  let c96_i32_884 : BitVec 32 := 96#32
  let v1734 : BitVec 32 := Scalar.addi v1733 c96_i32_884
  v1734
def k0_mult55 (k0_t1 : Fin k0_t1_loop.trips) : BitVec 32 :=
  let c2_i32_683 : BitVec 32 := 2#32
  let c0_i32_1 : BitVec 32 := 0#32
  let c1_i32 : BitVec 32 := 1#32
  let arg9 : BitVec 32 := Scf.iv c0_i32_1 c1_i32 k0_t1
  let v1347 : BitVec 32 := Scalar.muli c2_i32_683 arg9
  let c1_i32_684 : BitVec 32 := 1#32
  let v1348 : BitVec 32 := Scalar.addi v1347 c1_i32_684
  let c128_i32_949 : BitVec 32 := 128#32
  let v1861 : BitVec 32 := Scalar.muli v1348 c128_i32_949
  let c0_i32_950 : BitVec 32 := 0#32
  let v1862 : BitVec 32 := Scalar.addi v1861 c0_i32_950
  v1862
def k0_mult56 (k0_t1 : Fin k0_t1_loop.trips) : BitVec 32 :=
  let c2_i32_683 : BitVec 32 := 2#32
  let c0_i32_1 : BitVec 32 := 0#32
  let c1_i32 : BitVec 32 := 1#32
  let arg9 : BitVec 32 := Scf.iv c0_i32_1 c1_i32 k0_t1
  let v1347 : BitVec 32 := Scalar.muli c2_i32_683 arg9
  let c1_i32_684 : BitVec 32 := 1#32
  let v1348 : BitVec 32 := Scalar.addi v1347 c1_i32_684
  let c128_i32_1015 : BitVec 32 := 128#32
  let v1989 : BitVec 32 := Scalar.muli v1348 c128_i32_1015
  let c32_i32_1016 : BitVec 32 := 32#32
  let v1990 : BitVec 32 := Scalar.addi v1989 c32_i32_1016
  v1990
def k0_mult57 (k0_t1 : Fin k0_t1_loop.trips) : BitVec 32 :=
  let c2_i32_683 : BitVec 32 := 2#32
  let c0_i32_1 : BitVec 32 := 0#32
  let c1_i32 : BitVec 32 := 1#32
  let arg9 : BitVec 32 := Scf.iv c0_i32_1 c1_i32 k0_t1
  let v1347 : BitVec 32 := Scalar.muli c2_i32_683 arg9
  let c1_i32_684 : BitVec 32 := 1#32
  let v1348 : BitVec 32 := Scalar.addi v1347 c1_i32_684
  let c128_i32_1081 : BitVec 32 := 128#32
  let v2117 : BitVec 32 := Scalar.muli v1348 c128_i32_1081
  let c64_i32_1082 : BitVec 32 := 64#32
  let v2118 : BitVec 32 := Scalar.addi v2117 c64_i32_1082
  v2118
def k0_mult58 (k0_t1 : Fin k0_t1_loop.trips) : BitVec 32 :=
  let c2_i32_683 : BitVec 32 := 2#32
  let c0_i32_1 : BitVec 32 := 0#32
  let c1_i32 : BitVec 32 := 1#32
  let arg9 : BitVec 32 := Scf.iv c0_i32_1 c1_i32 k0_t1
  let v1347 : BitVec 32 := Scalar.muli c2_i32_683 arg9
  let c1_i32_684 : BitVec 32 := 1#32
  let v1348 : BitVec 32 := Scalar.addi v1347 c1_i32_684
  let c128_i32_1147 : BitVec 32 := 128#32
  let v2245 : BitVec 32 := Scalar.muli v1348 c128_i32_1147
  let c96_i32_1148 : BitVec 32 := 96#32
  let v2246 : BitVec 32 := Scalar.addi v2245 c96_i32_1148
  v2246
def k0_mult59 (k0_t1 : Fin k0_t1_loop.trips) : BitVec 32 :=
  let c2_i32_683 : BitVec 32 := 2#32
  let c0_i32_1 : BitVec 32 := 0#32
  let c1_i32 : BitVec 32 := 1#32
  let arg9 : BitVec 32 := Scf.iv c0_i32_1 c1_i32 k0_t1
  let v1347 : BitVec 32 := Scalar.muli c2_i32_683 arg9
  let c1_i32_684 : BitVec 32 := 1#32
  let v1348 : BitVec 32 := Scalar.addi v1347 c1_i32_684
  let c256_i32_1213 : BitVec 32 := 256#32
  let v2376 : BitVec 32 := Scalar.muli v1348 c256_i32_1213
  v2376
def k0_mult60 (k0_t1 : Fin k0_t1_loop.trips) : BitVec 32 :=
  let c2_i32_683 : BitVec 32 := 2#32
  let c0_i32_1 : BitVec 32 := 0#32
  let c1_i32 : BitVec 32 := 1#32
  let arg9 : BitVec 32 := Scf.iv c0_i32_1 c1_i32 k0_t1
  let v1347 : BitVec 32 := Scalar.muli c2_i32_683 arg9
  let c1_i32_684 : BitVec 32 := 1#32
  let v1348 : BitVec 32 := Scalar.addi v1347 c1_i32_684
  let c256_i32_1217 : BitVec 32 := 256#32
  let v2386 : BitVec 32 := Scalar.muli v1348 c256_i32_1217
  v2386
@[reducible] def k0_t2_loop : Scf.Loop 32 :=
  let c0_i32_5 : BitVec 32 := 0#32
  let c16_i32_6 : BitVec 32 := 16#32
  let v9 : BitVec 32 := Scalar.addi c0_i32_5 c16_i32_6
  let c1_i32_7 : BitVec 32 := 1#32
  ⟨c0_i32_5, v9, c1_i32_7⟩
def k0_mult61 (k0_t2 : Fin k0_t2_loop.trips) : BitVec 32 :=
  let c16_i32_11 : BitVec 32 := 16#32
  let c0_i32_5 : BitVec 32 := 0#32
  let c1_i32_7 : BitVec 32 := 1#32
  let arg9 : BitVec 32 := Scf.iv c0_i32_5 c1_i32_7 k0_t2
  let v15 : BitVec 32 := Scalar.muli c16_i32_11 arg9
  v15
def k0_mult62 (k0_t2 : Fin k0_t2_loop.trips) : BitVec 32 :=
  let c0_i32_12 : BitVec 32 := 0#32
  let c16_i32_11 : BitVec 32 := 16#32
  let c0_i32_5 : BitVec 32 := 0#32
  let c1_i32_7 : BitVec 32 := 1#32
  let arg9 : BitVec 32 := Scf.iv c0_i32_5 c1_i32_7 k0_t2
  let v15 : BitVec 32 := Scalar.muli c16_i32_11 arg9
  let v16 : BitVec 32 := v15
  let v17 : BitVec 32 := Scalar.addi c0_i32_12 v16
  v17
def k0_off23 (k0_t2 : Fin k0_t2_loop.trips) (c0_i32_12 : BitVec 32) : Fin 2 → Nat :=
  let c16_i32_11 : BitVec 32 := 16#32
  let c0_i32_5 : BitVec 32 := 0#32
  let c1_i32_7 : BitVec 32 := 1#32
  let arg9 : BitVec 32 := Scf.iv c0_i32_5 c1_i32_7 k0_t2
  let v15 : BitVec 32 := Scalar.muli c16_i32_11 arg9
  let v16 : BitVec 32 := v15
  let v17 : BitVec 32 := Scalar.addi c0_i32_12 v16
  let v18 : BitVec 32 := v17
  let v19 : Index := Scalar.indexCast v18
  let c256_13 : Index := 256#32
  ![v19.toNat, 256]
def k0_mult63 (k0_t2 : Fin k0_t2_loop.trips) : BitVec 32 :=
  let c512_i32 : BitVec 32 := 512#32
  let c16_i32_11 : BitVec 32 := 16#32
  let c0_i32_5 : BitVec 32 := 0#32
  let c1_i32_7 : BitVec 32 := 1#32
  let arg9 : BitVec 32 := Scf.iv c0_i32_5 c1_i32_7 k0_t2
  let v15 : BitVec 32 := Scalar.muli c16_i32_11 arg9
  let v16 : BitVec 32 := v15
  let v22 : BitVec 32 := Scalar.addi c512_i32 v16
  v22
def k0_mult64 (k0_t2 : Fin k0_t2_loop.trips) : BitVec 32 :=
  let c8_i32 : BitVec 32 := 8#32
  let c0_i32_5 : BitVec 32 := 0#32
  let c1_i32_7 : BitVec 32 := 1#32
  let arg9 : BitVec 32 := Scf.iv c0_i32_5 c1_i32_7 k0_t2
  let v37 : BitVec 32 := Scalar.muli c8_i32 arg9
  v37
def k0_off24 (k0_t2 : Fin k0_t2_loop.trips) : Fin 5 → Nat :=
  let c2 : Index := 2#32
  let c0_17 : Index := 0#32
  let c0_18 : Index := 0#32
  let c8_i32 : BitVec 32 := 8#32
  let c0_i32_5 : BitVec 32 := 0#32
  let c1_i32_7 : BitVec 32 := 1#32
  let arg9 : BitVec 32 := Scf.iv c0_i32_5 c1_i32_7 k0_t2
  let v37 : BitVec 32 := Scalar.muli c8_i32 arg9
  let v38 : BitVec 32 := v37
  let v40 : Index := Scalar.indexCast v38
  let c0_19 : Index := 0#32
  ![2, 0, 0, Nat.mul 2 v40.toNat, 0]
def k0_mult65 (k0_t2 : Fin k0_t2_loop.trips) : BitVec 32 :=
  let c8_i32_20 : BitVec 32 := 8#32
  let c0_i32_5 : BitVec 32 := 0#32
  let c1_i32_7 : BitVec 32 := 1#32
  let arg9 : BitVec 32 := Scf.iv c0_i32_5 c1_i32_7 k0_t2
  let v44 : BitVec 32 := Scalar.muli c8_i32_20 arg9
  v44
def k0_off25 (k0_t2 : Fin k0_t2_loop.trips) : Fin 5 → Nat :=
  let c2_21 : Index := 2#32
  let c0_22 : Index := 0#32
  let c1 : Index := 1#32
  let c8_i32_20 : BitVec 32 := 8#32
  let c0_i32_5 : BitVec 32 := 0#32
  let c1_i32_7 : BitVec 32 := 1#32
  let arg9 : BitVec 32 := Scf.iv c0_i32_5 c1_i32_7 k0_t2
  let v44 : BitVec 32 := Scalar.muli c8_i32_20 arg9
  let v45 : BitVec 32 := v44
  let v47 : Index := Scalar.indexCast v45
  let c0_23 : Index := 0#32
  ![2, 0, 1, Nat.mul 2 v47.toNat, 0]
def k0_mult66 (k0_t2 : Fin k0_t2_loop.trips) : BitVec 32 :=
  let c16_i32_24 : BitVec 32 := 16#32
  let c0_i32_5 : BitVec 32 := 0#32
  let c1_i32_7 : BitVec 32 := 1#32
  let arg9 : BitVec 32 := Scf.iv c0_i32_5 c1_i32_7 k0_t2
  let v51 : BitVec 32 := Scalar.muli c16_i32_24 arg9
  v51
def k0_mult67 (k0_t2 : Fin k0_t2_loop.trips) : BitVec 32 :=
  let c0_i32_25 : BitVec 32 := 0#32
  let c16_i32_24 : BitVec 32 := 16#32
  let c0_i32_5 : BitVec 32 := 0#32
  let c1_i32_7 : BitVec 32 := 1#32
  let arg9 : BitVec 32 := Scf.iv c0_i32_5 c1_i32_7 k0_t2
  let v51 : BitVec 32 := Scalar.muli c16_i32_24 arg9
  let v52 : BitVec 32 := v51
  let v53 : BitVec 32 := Scalar.addi c0_i32_25 v52
  v53
def k0_mult68 (k0_t2 : Fin k0_t2_loop.trips) : BitVec 32 :=
  let c512_i32_27 : BitVec 32 := 512#32
  let c16_i32_24 : BitVec 32 := 16#32
  let c0_i32_5 : BitVec 32 := 0#32
  let c1_i32_7 : BitVec 32 := 1#32
  let arg9 : BitVec 32 := Scf.iv c0_i32_5 c1_i32_7 k0_t2
  let v51 : BitVec 32 := Scalar.muli c16_i32_24 arg9
  let v52 : BitVec 32 := v51
  let v58 : BitVec 32 := Scalar.addi c512_i32_27 v52
  v58
def k0_mult69 (k0_t2 : Fin k0_t2_loop.trips) : BitVec 32 :=
  let c8_i32_33 : BitVec 32 := 8#32
  let c0_i32_5 : BitVec 32 := 0#32
  let c1_i32_7 : BitVec 32 := 1#32
  let arg9 : BitVec 32 := Scf.iv c0_i32_5 c1_i32_7 k0_t2
  let v73 : BitVec 32 := Scalar.muli c8_i32_33 arg9
  v73
def k0_mult70 (k0_t2 : Fin k0_t2_loop.trips) : BitVec 32 :=
  let c8_i32_38 : BitVec 32 := 8#32
  let c0_i32_5 : BitVec 32 := 0#32
  let c1_i32_7 : BitVec 32 := 1#32
  let arg9 : BitVec 32 := Scf.iv c0_i32_5 c1_i32_7 k0_t2
  let v80 : BitVec 32 := Scalar.muli c8_i32_38 arg9
  v80
def k0_mult71 (k0_t2 : Fin k0_t2_loop.trips) : BitVec 32 :=
  let c16_i32_43 : BitVec 32 := 16#32
  let c0_i32_5 : BitVec 32 := 0#32
  let c1_i32_7 : BitVec 32 := 1#32
  let arg9 : BitVec 32 := Scf.iv c0_i32_5 c1_i32_7 k0_t2
  let v87 : BitVec 32 := Scalar.muli c16_i32_43 arg9
  v87
def k0_mult72 (k0_t2 : Fin k0_t2_loop.trips) : BitVec 32 :=
  let c0_i32_44 : BitVec 32 := 0#32
  let c16_i32_43 : BitVec 32 := 16#32
  let c0_i32_5 : BitVec 32 := 0#32
  let c1_i32_7 : BitVec 32 := 1#32
  let arg9 : BitVec 32 := Scf.iv c0_i32_5 c1_i32_7 k0_t2
  let v87 : BitVec 32 := Scalar.muli c16_i32_43 arg9
  let v88 : BitVec 32 := v87
  let v89 : BitVec 32 := Scalar.addi c0_i32_44 v88
  v89
def k0_off26 (k0_t2 : Fin k0_t2_loop.trips) (c0_i32_44 : BitVec 32) : Fin 2 → Nat :=
  let c16_i32_43 : BitVec 32 := 16#32
  let c0_i32_5 : BitVec 32 := 0#32
  let c1_i32_7 : BitVec 32 := 1#32
  let arg9 : BitVec 32 := Scf.iv c0_i32_5 c1_i32_7 k0_t2
  let v87 : BitVec 32 := Scalar.muli c16_i32_43 arg9
  let v88 : BitVec 32 := v87
  let v89 : BitVec 32 := Scalar.addi c0_i32_44 v88
  let v90 : BitVec 32 := v89
  let v91 : Index := Scalar.indexCast v90
  let c384 : Index := 384#32
  ![v91.toNat, 384]
def k0_mult73 (k0_t2 : Fin k0_t2_loop.trips) : BitVec 32 :=
  let c512_i32_45 : BitVec 32 := 512#32
  let c16_i32_43 : BitVec 32 := 16#32
  let c0_i32_5 : BitVec 32 := 0#32
  let c1_i32_7 : BitVec 32 := 1#32
  let arg9 : BitVec 32 := Scf.iv c0_i32_5 c1_i32_7 k0_t2
  let v87 : BitVec 32 := Scalar.muli c16_i32_43 arg9
  let v88 : BitVec 32 := v87
  let v94 : BitVec 32 := Scalar.addi c512_i32_45 v88
  v94
def k0_mult74 (k0_t2 : Fin k0_t2_loop.trips) : BitVec 32 :=
  let c8_i32_51 : BitVec 32 := 8#32
  let c0_i32_5 : BitVec 32 := 0#32
  let c1_i32_7 : BitVec 32 := 1#32
  let arg9 : BitVec 32 := Scf.iv c0_i32_5 c1_i32_7 k0_t2
  let v109 : BitVec 32 := Scalar.muli c8_i32_51 arg9
  v109
def k0_off27 (k0_t2 : Fin k0_t2_loop.trips) : Fin 5 → Nat :=
  let c3 : Index := 3#32
  let c0_52 : Index := 0#32
  let c0_53 : Index := 0#32
  let c8_i32_51 : BitVec 32 := 8#32
  let c0_i32_5 : BitVec 32 := 0#32
  let c1_i32_7 : BitVec 32 := 1#32
  let arg9 : BitVec 32 := Scf.iv c0_i32_5 c1_i32_7 k0_t2
  let v109 : BitVec 32 := Scalar.muli c8_i32_51 arg9
  let v110 : BitVec 32 := v109
  let v112 : Index := Scalar.indexCast v110
  let c0_54 : Index := 0#32
  ![3, 0, 0, Nat.mul 2 v112.toNat, 0]
def k0_mult75 (k0_t2 : Fin k0_t2_loop.trips) : BitVec 32 :=
  let c8_i32_55 : BitVec 32 := 8#32
  let c0_i32_5 : BitVec 32 := 0#32
  let c1_i32_7 : BitVec 32 := 1#32
  let arg9 : BitVec 32 := Scf.iv c0_i32_5 c1_i32_7 k0_t2
  let v116 : BitVec 32 := Scalar.muli c8_i32_55 arg9
  v116
def k0_off28 (k0_t2 : Fin k0_t2_loop.trips) : Fin 5 → Nat :=
  let c3_56 : Index := 3#32
  let c0_57 : Index := 0#32
  let c1_58 : Index := 1#32
  let c8_i32_55 : BitVec 32 := 8#32
  let c0_i32_5 : BitVec 32 := 0#32
  let c1_i32_7 : BitVec 32 := 1#32
  let arg9 : BitVec 32 := Scf.iv c0_i32_5 c1_i32_7 k0_t2
  let v116 : BitVec 32 := Scalar.muli c8_i32_55 arg9
  let v117 : BitVec 32 := v116
  let v119 : Index := Scalar.indexCast v117
  let c0_59 : Index := 0#32
  ![3, 0, 1, Nat.mul 2 v119.toNat, 0]
def k0_mult76 (k0_t2 : Fin k0_t2_loop.trips) : BitVec 32 :=
  let c16_i32_60 : BitVec 32 := 16#32
  let c0_i32_5 : BitVec 32 := 0#32
  let c1_i32_7 : BitVec 32 := 1#32
  let arg9 : BitVec 32 := Scf.iv c0_i32_5 c1_i32_7 k0_t2
  let v123 : BitVec 32 := Scalar.muli c16_i32_60 arg9
  v123
def k0_mult77 (k0_t2 : Fin k0_t2_loop.trips) : BitVec 32 :=
  let c0_i32_61 : BitVec 32 := 0#32
  let c16_i32_60 : BitVec 32 := 16#32
  let c0_i32_5 : BitVec 32 := 0#32
  let c1_i32_7 : BitVec 32 := 1#32
  let arg9 : BitVec 32 := Scf.iv c0_i32_5 c1_i32_7 k0_t2
  let v123 : BitVec 32 := Scalar.muli c16_i32_60 arg9
  let v124 : BitVec 32 := v123
  let v125 : BitVec 32 := Scalar.addi c0_i32_61 v124
  v125
def k0_mult78 (k0_t2 : Fin k0_t2_loop.trips) : BitVec 32 :=
  let c512_i32_63 : BitVec 32 := 512#32
  let c16_i32_60 : BitVec 32 := 16#32
  let c0_i32_5 : BitVec 32 := 0#32
  let c1_i32_7 : BitVec 32 := 1#32
  let arg9 : BitVec 32 := Scf.iv c0_i32_5 c1_i32_7 k0_t2
  let v123 : BitVec 32 := Scalar.muli c16_i32_60 arg9
  let v124 : BitVec 32 := v123
  let v130 : BitVec 32 := Scalar.addi c512_i32_63 v124
  v130
def k0_mult79 (k0_t2 : Fin k0_t2_loop.trips) : BitVec 32 :=
  let c8_i32_69 : BitVec 32 := 8#32
  let c0_i32_5 : BitVec 32 := 0#32
  let c1_i32_7 : BitVec 32 := 1#32
  let arg9 : BitVec 32 := Scf.iv c0_i32_5 c1_i32_7 k0_t2
  let v145 : BitVec 32 := Scalar.muli c8_i32_69 arg9
  v145
def k0_mult80 (k0_t2 : Fin k0_t2_loop.trips) : BitVec 32 :=
  let c8_i32_74 : BitVec 32 := 8#32
  let c0_i32_5 : BitVec 32 := 0#32
  let c1_i32_7 : BitVec 32 := 1#32
  let arg9 : BitVec 32 := Scf.iv c0_i32_5 c1_i32_7 k0_t2
  let v152 : BitVec 32 := Scalar.muli c8_i32_74 arg9
  v152
def k0_mult81 (k0_t2 : Fin k0_t2_loop.trips) : BitVec 32 :=
  let c16_i32_79 : BitVec 32 := 16#32
  let c0_i32_5 : BitVec 32 := 0#32
  let c1_i32_7 : BitVec 32 := 1#32
  let arg9 : BitVec 32 := Scf.iv c0_i32_5 c1_i32_7 k0_t2
  let v159 : BitVec 32 := Scalar.muli c16_i32_79 arg9
  v159
def k0_mult82 (k0_t2 : Fin k0_t2_loop.trips) : BitVec 32 :=
  let c256_i32 : BitVec 32 := 256#32
  let c16_i32_79 : BitVec 32 := 16#32
  let c0_i32_5 : BitVec 32 := 0#32
  let c1_i32_7 : BitVec 32 := 1#32
  let arg9 : BitVec 32 := Scf.iv c0_i32_5 c1_i32_7 k0_t2
  let v159 : BitVec 32 := Scalar.muli c16_i32_79 arg9
  let v160 : BitVec 32 := v159
  let v161 : BitVec 32 := Scalar.addi c256_i32 v160
  v161
def k0_mult83 (k0_t2 : Fin k0_t2_loop.trips) : BitVec 32 :=
  let c768_i32 : BitVec 32 := 768#32
  let c16_i32_79 : BitVec 32 := 16#32
  let c0_i32_5 : BitVec 32 := 0#32
  let c1_i32_7 : BitVec 32 := 1#32
  let arg9 : BitVec 32 := Scf.iv c0_i32_5 c1_i32_7 k0_t2
  let v159 : BitVec 32 := Scalar.muli c16_i32_79 arg9
  let v160 : BitVec 32 := v159
  let v166 : BitVec 32 := Scalar.addi c768_i32 v160
  v166
def k0_mult84 (k0_t2 : Fin k0_t2_loop.trips) : BitVec 32 :=
  let c8_i32_86 : BitVec 32 := 8#32
  let c0_i32_5 : BitVec 32 := 0#32
  let c1_i32_7 : BitVec 32 := 1#32
  let arg9 : BitVec 32 := Scf.iv c0_i32_5 c1_i32_7 k0_t2
  let v181 : BitVec 32 := Scalar.muli c8_i32_86 arg9
  v181
def k0_off29 (k0_t2 : Fin k0_t2_loop.trips) : Fin 5 → Nat :=
  let c2_87 : Index := 2#32
  let c1_88 : Index := 1#32
  let c0_89 : Index := 0#32
  let c8_i32_86 : BitVec 32 := 8#32
  let c0_i32_5 : BitVec 32 := 0#32
  let c1_i32_7 : BitVec 32 := 1#32
  let arg9 : BitVec 32 := Scf.iv c0_i32_5 c1_i32_7 k0_t2
  let v181 : BitVec 32 := Scalar.muli c8_i32_86 arg9
  let v182 : BitVec 32 := v181
  let v184 : Index := Scalar.indexCast v182
  let c0_90 : Index := 0#32
  ![2, 1, 0, Nat.mul 2 v184.toNat, 0]
def k0_mult85 (k0_t2 : Fin k0_t2_loop.trips) : BitVec 32 :=
  let c8_i32_91 : BitVec 32 := 8#32
  let c0_i32_5 : BitVec 32 := 0#32
  let c1_i32_7 : BitVec 32 := 1#32
  let arg9 : BitVec 32 := Scf.iv c0_i32_5 c1_i32_7 k0_t2
  let v188 : BitVec 32 := Scalar.muli c8_i32_91 arg9
  v188
def k0_off30 (k0_t2 : Fin k0_t2_loop.trips) : Fin 5 → Nat :=
  let c2_92 : Index := 2#32
  let c1_93 : Index := 1#32
  let c1_94 : Index := 1#32
  let c8_i32_91 : BitVec 32 := 8#32
  let c0_i32_5 : BitVec 32 := 0#32
  let c1_i32_7 : BitVec 32 := 1#32
  let arg9 : BitVec 32 := Scf.iv c0_i32_5 c1_i32_7 k0_t2
  let v188 : BitVec 32 := Scalar.muli c8_i32_91 arg9
  let v189 : BitVec 32 := v188
  let v191 : Index := Scalar.indexCast v189
  let c0_95 : Index := 0#32
  ![2, 1, 1, Nat.mul 2 v191.toNat, 0]
def k0_mult86 (k0_t2 : Fin k0_t2_loop.trips) : BitVec 32 :=
  let c16_i32_96 : BitVec 32 := 16#32
  let c0_i32_5 : BitVec 32 := 0#32
  let c1_i32_7 : BitVec 32 := 1#32
  let arg9 : BitVec 32 := Scf.iv c0_i32_5 c1_i32_7 k0_t2
  let v195 : BitVec 32 := Scalar.muli c16_i32_96 arg9
  v195
def k0_mult87 (k0_t2 : Fin k0_t2_loop.trips) : BitVec 32 :=
  let c256_i32_97 : BitVec 32 := 256#32
  let c16_i32_96 : BitVec 32 := 16#32
  let c0_i32_5 : BitVec 32 := 0#32
  let c1_i32_7 : BitVec 32 := 1#32
  let arg9 : BitVec 32 := Scf.iv c0_i32_5 c1_i32_7 k0_t2
  let v195 : BitVec 32 := Scalar.muli c16_i32_96 arg9
  let v196 : BitVec 32 := v195
  let v197 : BitVec 32 := Scalar.addi c256_i32_97 v196
  v197
def k0_mult88 (k0_t2 : Fin k0_t2_loop.trips) : BitVec 32 :=
  let c768_i32_99 : BitVec 32 := 768#32
  let c16_i32_96 : BitVec 32 := 16#32
  let c0_i32_5 : BitVec 32 := 0#32
  let c1_i32_7 : BitVec 32 := 1#32
  let arg9 : BitVec 32 := Scf.iv c0_i32_5 c1_i32_7 k0_t2
  let v195 : BitVec 32 := Scalar.muli c16_i32_96 arg9
  let v196 : BitVec 32 := v195
  let v202 : BitVec 32 := Scalar.addi c768_i32_99 v196
  v202
def k0_mult89 (k0_t2 : Fin k0_t2_loop.trips) : BitVec 32 :=
  let c8_i32_105 : BitVec 32 := 8#32
  let c0_i32_5 : BitVec 32 := 0#32
  let c1_i32_7 : BitVec 32 := 1#32
  let arg9 : BitVec 32 := Scf.iv c0_i32_5 c1_i32_7 k0_t2
  let v217 : BitVec 32 := Scalar.muli c8_i32_105 arg9
  v217
def k0_mult90 (k0_t2 : Fin k0_t2_loop.trips) : BitVec 32 :=
  let c8_i32_110 : BitVec 32 := 8#32
  let c0_i32_5 : BitVec 32 := 0#32
  let c1_i32_7 : BitVec 32 := 1#32
  let arg9 : BitVec 32 := Scf.iv c0_i32_5 c1_i32_7 k0_t2
  let v224 : BitVec 32 := Scalar.muli c8_i32_110 arg9
  v224
def k0_mult91 (k0_t2 : Fin k0_t2_loop.trips) : BitVec 32 :=
  let c16_i32_115 : BitVec 32 := 16#32
  let c0_i32_5 : BitVec 32 := 0#32
  let c1_i32_7 : BitVec 32 := 1#32
  let arg9 : BitVec 32 := Scf.iv c0_i32_5 c1_i32_7 k0_t2
  let v231 : BitVec 32 := Scalar.muli c16_i32_115 arg9
  v231
def k0_mult92 (k0_t2 : Fin k0_t2_loop.trips) : BitVec 32 :=
  let c256_i32_116 : BitVec 32 := 256#32
  let c16_i32_115 : BitVec 32 := 16#32
  let c0_i32_5 : BitVec 32 := 0#32
  let c1_i32_7 : BitVec 32 := 1#32
  let arg9 : BitVec 32 := Scf.iv c0_i32_5 c1_i32_7 k0_t2
  let v231 : BitVec 32 := Scalar.muli c16_i32_115 arg9
  let v232 : BitVec 32 := v231
  let v233 : BitVec 32 := Scalar.addi c256_i32_116 v232
  v233
def k0_mult93 (k0_t2 : Fin k0_t2_loop.trips) : BitVec 32 :=
  let c768_i32_118 : BitVec 32 := 768#32
  let c16_i32_115 : BitVec 32 := 16#32
  let c0_i32_5 : BitVec 32 := 0#32
  let c1_i32_7 : BitVec 32 := 1#32
  let arg9 : BitVec 32 := Scf.iv c0_i32_5 c1_i32_7 k0_t2
  let v231 : BitVec 32 := Scalar.muli c16_i32_115 arg9
  let v232 : BitVec 32 := v231
  let v238 : BitVec 32 := Scalar.addi c768_i32_118 v232
  v238
def k0_mult94 (k0_t2 : Fin k0_t2_loop.trips) : BitVec 32 :=
  let c8_i32_124 : BitVec 32 := 8#32
  let c0_i32_5 : BitVec 32 := 0#32
  let c1_i32_7 : BitVec 32 := 1#32
  let arg9 : BitVec 32 := Scf.iv c0_i32_5 c1_i32_7 k0_t2
  let v253 : BitVec 32 := Scalar.muli c8_i32_124 arg9
  v253
def k0_off31 (k0_t2 : Fin k0_t2_loop.trips) : Fin 5 → Nat :=
  let c3_125 : Index := 3#32
  let c1_126 : Index := 1#32
  let c0_127 : Index := 0#32
  let c8_i32_124 : BitVec 32 := 8#32
  let c0_i32_5 : BitVec 32 := 0#32
  let c1_i32_7 : BitVec 32 := 1#32
  let arg9 : BitVec 32 := Scf.iv c0_i32_5 c1_i32_7 k0_t2
  let v253 : BitVec 32 := Scalar.muli c8_i32_124 arg9
  let v254 : BitVec 32 := v253
  let v256 : Index := Scalar.indexCast v254
  let c0_128 : Index := 0#32
  ![3, 1, 0, Nat.mul 2 v256.toNat, 0]
def k0_mult95 (k0_t2 : Fin k0_t2_loop.trips) : BitVec 32 :=
  let c8_i32_129 : BitVec 32 := 8#32
  let c0_i32_5 : BitVec 32 := 0#32
  let c1_i32_7 : BitVec 32 := 1#32
  let arg9 : BitVec 32 := Scf.iv c0_i32_5 c1_i32_7 k0_t2
  let v260 : BitVec 32 := Scalar.muli c8_i32_129 arg9
  v260
def k0_off32 (k0_t2 : Fin k0_t2_loop.trips) : Fin 5 → Nat :=
  let c3_130 : Index := 3#32
  let c1_131 : Index := 1#32
  let c1_132 : Index := 1#32
  let c8_i32_129 : BitVec 32 := 8#32
  let c0_i32_5 : BitVec 32 := 0#32
  let c1_i32_7 : BitVec 32 := 1#32
  let arg9 : BitVec 32 := Scf.iv c0_i32_5 c1_i32_7 k0_t2
  let v260 : BitVec 32 := Scalar.muli c8_i32_129 arg9
  let v261 : BitVec 32 := v260
  let v263 : Index := Scalar.indexCast v261
  let c0_133 : Index := 0#32
  ![3, 1, 1, Nat.mul 2 v263.toNat, 0]
def k0_mult96 (k0_t2 : Fin k0_t2_loop.trips) : BitVec 32 :=
  let c16_i32_134 : BitVec 32 := 16#32
  let c0_i32_5 : BitVec 32 := 0#32
  let c1_i32_7 : BitVec 32 := 1#32
  let arg9 : BitVec 32 := Scf.iv c0_i32_5 c1_i32_7 k0_t2
  let v267 : BitVec 32 := Scalar.muli c16_i32_134 arg9
  v267
def k0_mult97 (k0_t2 : Fin k0_t2_loop.trips) : BitVec 32 :=
  let c256_i32_135 : BitVec 32 := 256#32
  let c16_i32_134 : BitVec 32 := 16#32
  let c0_i32_5 : BitVec 32 := 0#32
  let c1_i32_7 : BitVec 32 := 1#32
  let arg9 : BitVec 32 := Scf.iv c0_i32_5 c1_i32_7 k0_t2
  let v267 : BitVec 32 := Scalar.muli c16_i32_134 arg9
  let v268 : BitVec 32 := v267
  let v269 : BitVec 32 := Scalar.addi c256_i32_135 v268
  v269
def k0_mult98 (k0_t2 : Fin k0_t2_loop.trips) : BitVec 32 :=
  let c768_i32_137 : BitVec 32 := 768#32
  let c16_i32_134 : BitVec 32 := 16#32
  let c0_i32_5 : BitVec 32 := 0#32
  let c1_i32_7 : BitVec 32 := 1#32
  let arg9 : BitVec 32 := Scf.iv c0_i32_5 c1_i32_7 k0_t2
  let v267 : BitVec 32 := Scalar.muli c16_i32_134 arg9
  let v268 : BitVec 32 := v267
  let v274 : BitVec 32 := Scalar.addi c768_i32_137 v268
  v274
def k0_mult99 (k0_t2 : Fin k0_t2_loop.trips) : BitVec 32 :=
  let c8_i32_143 : BitVec 32 := 8#32
  let c0_i32_5 : BitVec 32 := 0#32
  let c1_i32_7 : BitVec 32 := 1#32
  let arg9 : BitVec 32 := Scf.iv c0_i32_5 c1_i32_7 k0_t2
  let v289 : BitVec 32 := Scalar.muli c8_i32_143 arg9
  v289
def k0_mult100 (k0_t2 : Fin k0_t2_loop.trips) : BitVec 32 :=
  let c8_i32_148 : BitVec 32 := 8#32
  let c0_i32_5 : BitVec 32 := 0#32
  let c1_i32_7 : BitVec 32 := 1#32
  let arg9 : BitVec 32 := Scf.iv c0_i32_5 c1_i32_7 k0_t2
  let v296 : BitVec 32 := Scalar.muli c8_i32_148 arg9
  v296
def k0_mult101 (k0_t2 : Fin k0_t2_loop.trips) : BitVec 32 :=
  let c2_i32 : BitVec 32 := 2#32
  let c0_i32_5 : BitVec 32 := 0#32
  let c1_i32_7 : BitVec 32 := 1#32
  let arg9 : BitVec 32 := Scf.iv c0_i32_5 c1_i32_7 k0_t2
  let v13 : BitVec 32 := Scalar.muli c2_i32 arg9
  let c0_i32_10 : BitVec 32 := 0#32
  let v14 : BitVec 32 := Scalar.addi v13 c0_i32_10
  let c128_i32 : BitVec 32 := 128#32
  let v303 : BitVec 32 := Scalar.muli v14 c128_i32
  let c0_i32_153 : BitVec 32 := 0#32
  let v304 : BitVec 32 := Scalar.addi v303 c0_i32_153
  v304
def k0_off33 (k0_t2 : Fin k0_t2_loop.trips) (c0_i32_10 : BitVec 32) (c0_i32_153 : BitVec 32) : Fin 2 → Nat :=
  let c2_i32 : BitVec 32 := 2#32
  let c0_i32_5 : BitVec 32 := 0#32
  let c1_i32_7 : BitVec 32 := 1#32
  let arg9 : BitVec 32 := Scf.iv c0_i32_5 c1_i32_7 k0_t2
  let v13 : BitVec 32 := Scalar.muli c2_i32 arg9
  let v14 : BitVec 32 := Scalar.addi v13 c0_i32_10
  let c128_i32 : BitVec 32 := 128#32
  let v303 : BitVec 32 := Scalar.muli v14 c128_i32
  let v304 : BitVec 32 := Scalar.addi v303 c0_i32_153
  let v305 : BitVec 32 := v304
  let v306 : Index := Scalar.indexCast v305
  let c256_154 : Index := 256#32
  ![v306.toNat, 256]
def k0_off34 (k0_t2 : Fin k0_t2_loop.trips) (c0_i32_156 : BitVec 32) (c0_i32_157 : BitVec 32) : Fin 5 → Nat :=
  let c2_158 : Index := 2#32
  let c0_159 : Index := 0#32
  let c0_160 : Index := 0#32
  let c0_i32_5 : BitVec 32 := 0#32
  let c1_i32_7 : BitVec 32 := 1#32
  let arg9 : BitVec 32 := Scf.iv c0_i32_5 c1_i32_7 k0_t2
  let c8_i32_155 : BitVec 32 := 8#32
  let v321 : BitVec 32 := Scalar.muli arg9 c8_i32_155
  let v322 : BitVec 32 := Scalar.addi v321 c0_i32_156
  let v323 : BitVec 32 := Scalar.addi v322 c0_i32_157
  let v325 : Index := Scalar.indexCast v323
  let c0_161 : Index := 0#32
  ![2, 0, 0, Nat.mul 2 v325.toNat, 0]
def k0_off35 (k0_t2 : Fin k0_t2_loop.trips) (c0_i32_170 : BitVec 32) (c0_i32_171 : BitVec 32) : Fin 5 → Nat :=
  let c2_172 : Index := 2#32
  let c0_173 : Index := 0#32
  let c1_174 : Index := 1#32
  let c0_i32_5 : BitVec 32 := 0#32
  let c1_i32_7 : BitVec 32 := 1#32
  let arg9 : BitVec 32 := Scf.iv c0_i32_5 c1_i32_7 k0_t2
  let c8_i32_169 : BitVec 32 := 8#32
  let v345 : BitVec 32 := Scalar.muli arg9 c8_i32_169
  let v346 : BitVec 32 := Scalar.addi v345 c0_i32_170
  let v347 : BitVec 32 := Scalar.addi v346 c0_i32_171
  let v349 : Index := Scalar.indexCast v347
  let c0_175 : Index := 0#32
  ![2, 0, 1, Nat.mul 2 v349.toNat, 0]
def k0_off36 (k0_t2 : Fin k0_t2_loop.trips) (c0_i32_188 : BitVec 32) (c0_i32_189 : BitVec 32) : Fin 5 → Nat :=
  let c2_190 : Index := 2#32
  let c1_191 : Index := 1#32
  let c0_192 : Index := 0#32
  let c0_i32_5 : BitVec 32 := 0#32
  let c1_i32_7 : BitVec 32 := 1#32
  let arg9 : BitVec 32 := Scf.iv c0_i32_5 c1_i32_7 k0_t2
  let c8_i32_187 : BitVec 32 := 8#32
  let v383 : BitVec 32 := Scalar.muli arg9 c8_i32_187
  let v384 : BitVec 32 := Scalar.addi v383 c0_i32_188
  let v385 : BitVec 32 := Scalar.addi v384 c0_i32_189
  let v387 : Index := Scalar.indexCast v385
  let c0_193 : Index := 0#32
  ![2, 1, 0, Nat.mul 2 v387.toNat, 0]
def k0_off37 (k0_t2 : Fin k0_t2_loop.trips) (c0_i32_202 : BitVec 32) (c0_i32_203 : BitVec 32) : Fin 5 → Nat :=
  let c2_204 : Index := 2#32
  let c1_205 : Index := 1#32
  let c1_206 : Index := 1#32
  let c0_i32_5 : BitVec 32 := 0#32
  let c1_i32_7 : BitVec 32 := 1#32
  let arg9 : BitVec 32 := Scf.iv c0_i32_5 c1_i32_7 k0_t2
  let c8_i32_201 : BitVec 32 := 8#32
  let v407 : BitVec 32 := Scalar.muli arg9 c8_i32_201
  let v408 : BitVec 32 := Scalar.addi v407 c0_i32_202
  let v409 : BitVec 32 := Scalar.addi v408 c0_i32_203
  let v411 : Index := Scalar.indexCast v409
  let c0_207 : Index := 0#32
  ![2, 1, 1, Nat.mul 2 v411.toNat, 0]
def k0_mult102 (k0_t2 : Fin k0_t2_loop.trips) : BitVec 32 :=
  let c2_i32 : BitVec 32 := 2#32
  let c0_i32_5 : BitVec 32 := 0#32
  let c1_i32_7 : BitVec 32 := 1#32
  let arg9 : BitVec 32 := Scf.iv c0_i32_5 c1_i32_7 k0_t2
  let v13 : BitVec 32 := Scalar.muli c2_i32 arg9
  let c0_i32_10 : BitVec 32 := 0#32
  let v14 : BitVec 32 := Scalar.addi v13 c0_i32_10
  let c128_i32_215 : BitVec 32 := 128#32
  let v431 : BitVec 32 := Scalar.muli v14 c128_i32_215
  let c32_i32 : BitVec 32 := 32#32
  let v432 : BitVec 32 := Scalar.addi v431 c32_i32
  v432
def k0_mult103 (k0_t2 : Fin k0_t2_loop.trips) : BitVec 32 :=
  let c2_i32 : BitVec 32 := 2#32
  let c0_i32_5 : BitVec 32 := 0#32
  let c1_i32_7 : BitVec 32 := 1#32
  let arg9 : BitVec 32 := Scf.iv c0_i32_5 c1_i32_7 k0_t2
  let v13 : BitVec 32 := Scalar.muli c2_i32 arg9
  let c0_i32_10 : BitVec 32 := 0#32
  let v14 : BitVec 32 := Scalar.addi v13 c0_i32_10
  let c128_i32_280 : BitVec 32 := 128#32
  let v559 : BitVec 32 := Scalar.muli v14 c128_i32_280
  let c64_i32 : BitVec 32 := 64#32
  let v560 : BitVec 32 := Scalar.addi v559 c64_i32
  v560
def k0_mult104 (k0_t2 : Fin k0_t2_loop.trips) : BitVec 32 :=
  let c2_i32 : BitVec 32 := 2#32
  let c0_i32_5 : BitVec 32 := 0#32
  let c1_i32_7 : BitVec 32 := 1#32
  let arg9 : BitVec 32 := Scf.iv c0_i32_5 c1_i32_7 k0_t2
  let v13 : BitVec 32 := Scalar.muli c2_i32 arg9
  let c0_i32_10 : BitVec 32 := 0#32
  let v14 : BitVec 32 := Scalar.addi v13 c0_i32_10
  let c128_i32_345 : BitVec 32 := 128#32
  let v687 : BitVec 32 := Scalar.muli v14 c128_i32_345
  let c96_i32 : BitVec 32 := 96#32
  let v688 : BitVec 32 := Scalar.addi v687 c96_i32
  v688
def k0_mult105 (k0_t2 : Fin k0_t2_loop.trips) : BitVec 32 :=
  let c2_i32 : BitVec 32 := 2#32
  let c0_i32_5 : BitVec 32 := 0#32
  let c1_i32_7 : BitVec 32 := 1#32
  let arg9 : BitVec 32 := Scf.iv c0_i32_5 c1_i32_7 k0_t2
  let v13 : BitVec 32 := Scalar.muli c2_i32 arg9
  let c0_i32_10 : BitVec 32 := 0#32
  let v14 : BitVec 32 := Scalar.addi v13 c0_i32_10
  let c128_i32_409 : BitVec 32 := 128#32
  let v815 : BitVec 32 := Scalar.muli v14 c128_i32_409
  let c0_i32_410 : BitVec 32 := 0#32
  let v816 : BitVec 32 := Scalar.addi v815 c0_i32_410
  v816
def k0_off38 (k0_t2 : Fin k0_t2_loop.trips) (c0_i32_10 : BitVec 32) (c0_i32_410 : BitVec 32) : Fin 2 → Nat :=
  let c2_i32 : BitVec 32 := 2#32
  let c0_i32_5 : BitVec 32 := 0#32
  let c1_i32_7 : BitVec 32 := 1#32
  let arg9 : BitVec 32 := Scf.iv c0_i32_5 c1_i32_7 k0_t2
  let v13 : BitVec 32 := Scalar.muli c2_i32 arg9
  let v14 : BitVec 32 := Scalar.addi v13 c0_i32_10
  let c128_i32_409 : BitVec 32 := 128#32
  let v815 : BitVec 32 := Scalar.muli v14 c128_i32_409
  let v816 : BitVec 32 := Scalar.addi v815 c0_i32_410
  let v817 : BitVec 32 := v816
  let v818 : Index := Scalar.indexCast v817
  let c384_411 : Index := 384#32
  ![v818.toNat, 384]
def k0_off39 (k0_t2 : Fin k0_t2_loop.trips) (c0_i32_416 : BitVec 32) (c0_i32_417 : BitVec 32) : Fin 5 → Nat :=
  let c3_418 : Index := 3#32
  let c0_419 : Index := 0#32
  let c0_420 : Index := 0#32
  let c0_i32_5 : BitVec 32 := 0#32
  let c1_i32_7 : BitVec 32 := 1#32
  let arg9 : BitVec 32 := Scf.iv c0_i32_5 c1_i32_7 k0_t2
  let c8_i32_415 : BitVec 32 := 8#32
  let v833 : BitVec 32 := Scalar.muli arg9 c8_i32_415
  let v834 : BitVec 32 := Scalar.addi v833 c0_i32_416
  let v835 : BitVec 32 := Scalar.addi v834 c0_i32_417
  let v837 : Index := Scalar.indexCast v835
  let c0_421 : Index := 0#32
  ![3, 0, 0, Nat.mul 2 v837.toNat, 0]
def k0_off40 (k0_t2 : Fin k0_t2_loop.trips) (c0_i32_430 : BitVec 32) (c0_i32_431 : BitVec 32) : Fin 5 → Nat :=
  let c3_432 : Index := 3#32
  let c0_433 : Index := 0#32
  let c1_434 : Index := 1#32
  let c0_i32_5 : BitVec 32 := 0#32
  let c1_i32_7 : BitVec 32 := 1#32
  let arg9 : BitVec 32 := Scf.iv c0_i32_5 c1_i32_7 k0_t2
  let c8_i32_429 : BitVec 32 := 8#32
  let v857 : BitVec 32 := Scalar.muli arg9 c8_i32_429
  let v858 : BitVec 32 := Scalar.addi v857 c0_i32_430
  let v859 : BitVec 32 := Scalar.addi v858 c0_i32_431
  let v861 : Index := Scalar.indexCast v859
  let c0_435 : Index := 0#32
  ![3, 0, 1, Nat.mul 2 v861.toNat, 0]
def k0_off41 (k0_t2 : Fin k0_t2_loop.trips) (c0_i32_448 : BitVec 32) (c0_i32_449 : BitVec 32) : Fin 5 → Nat :=
  let c3_450 : Index := 3#32
  let c1_451 : Index := 1#32
  let c0_452 : Index := 0#32
  let c0_i32_5 : BitVec 32 := 0#32
  let c1_i32_7 : BitVec 32 := 1#32
  let arg9 : BitVec 32 := Scf.iv c0_i32_5 c1_i32_7 k0_t2
  let c8_i32_447 : BitVec 32 := 8#32
  let v895 : BitVec 32 := Scalar.muli arg9 c8_i32_447
  let v896 : BitVec 32 := Scalar.addi v895 c0_i32_448
  let v897 : BitVec 32 := Scalar.addi v896 c0_i32_449
  let v899 : Index := Scalar.indexCast v897
  let c0_453 : Index := 0#32
  ![3, 1, 0, Nat.mul 2 v899.toNat, 0]
def k0_off42 (k0_t2 : Fin k0_t2_loop.trips) (c0_i32_462 : BitVec 32) (c0_i32_463 : BitVec 32) : Fin 5 → Nat :=
  let c3_464 : Index := 3#32
  let c1_465 : Index := 1#32
  let c1_466 : Index := 1#32
  let c0_i32_5 : BitVec 32 := 0#32
  let c1_i32_7 : BitVec 32 := 1#32
  let arg9 : BitVec 32 := Scf.iv c0_i32_5 c1_i32_7 k0_t2
  let c8_i32_461 : BitVec 32 := 8#32
  let v919 : BitVec 32 := Scalar.muli arg9 c8_i32_461
  let v920 : BitVec 32 := Scalar.addi v919 c0_i32_462
  let v921 : BitVec 32 := Scalar.addi v920 c0_i32_463
  let v923 : Index := Scalar.indexCast v921
  let c0_467 : Index := 0#32
  ![3, 1, 1, Nat.mul 2 v923.toNat, 0]
def k0_mult106 (k0_t2 : Fin k0_t2_loop.trips) : BitVec 32 :=
  let c2_i32 : BitVec 32 := 2#32
  let c0_i32_5 : BitVec 32 := 0#32
  let c1_i32_7 : BitVec 32 := 1#32
  let arg9 : BitVec 32 := Scf.iv c0_i32_5 c1_i32_7 k0_t2
  let v13 : BitVec 32 := Scalar.muli c2_i32 arg9
  let c0_i32_10 : BitVec 32 := 0#32
  let v14 : BitVec 32 := Scalar.addi v13 c0_i32_10
  let c128_i32_475 : BitVec 32 := 128#32
  let v943 : BitVec 32 := Scalar.muli v14 c128_i32_475
  let c32_i32_476 : BitVec 32 := 32#32
  let v944 : BitVec 32 := Scalar.addi v943 c32_i32_476
  v944
def k0_mult107 (k0_t2 : Fin k0_t2_loop.trips) : BitVec 32 :=
  let c2_i32 : BitVec 32 := 2#32
  let c0_i32_5 : BitVec 32 := 0#32
  let c1_i32_7 : BitVec 32 := 1#32
  let arg9 : BitVec 32 := Scf.iv c0_i32_5 c1_i32_7 k0_t2
  let v13 : BitVec 32 := Scalar.muli c2_i32 arg9
  let c0_i32_10 : BitVec 32 := 0#32
  let v14 : BitVec 32 := Scalar.addi v13 c0_i32_10
  let c128_i32_541 : BitVec 32 := 128#32
  let v1071 : BitVec 32 := Scalar.muli v14 c128_i32_541
  let c64_i32_542 : BitVec 32 := 64#32
  let v1072 : BitVec 32 := Scalar.addi v1071 c64_i32_542
  v1072
def k0_mult108 (k0_t2 : Fin k0_t2_loop.trips) : BitVec 32 :=
  let c2_i32 : BitVec 32 := 2#32
  let c0_i32_5 : BitVec 32 := 0#32
  let c1_i32_7 : BitVec 32 := 1#32
  let arg9 : BitVec 32 := Scf.iv c0_i32_5 c1_i32_7 k0_t2
  let v13 : BitVec 32 := Scalar.muli c2_i32 arg9
  let c0_i32_10 : BitVec 32 := 0#32
  let v14 : BitVec 32 := Scalar.addi v13 c0_i32_10
  let c128_i32_607 : BitVec 32 := 128#32
  let v1199 : BitVec 32 := Scalar.muli v14 c128_i32_607
  let c96_i32_608 : BitVec 32 := 96#32
  let v1200 : BitVec 32 := Scalar.addi v1199 c96_i32_608
  v1200
def k0_mult109 (k0_t2 : Fin k0_t2_loop.trips) : BitVec 32 :=
  let c2_i32 : BitVec 32 := 2#32
  let c0_i32_5 : BitVec 32 := 0#32
  let c1_i32_7 : BitVec 32 := 1#32
  let arg9 : BitVec 32 := Scf.iv c0_i32_5 c1_i32_7 k0_t2
  let v13 : BitVec 32 := Scalar.muli c2_i32 arg9
  let c0_i32_10 : BitVec 32 := 0#32
  let v14 : BitVec 32 := Scalar.addi v13 c0_i32_10
  let c256_i32_673 : BitVec 32 := 256#32
  let v1330 : BitVec 32 := Scalar.muli v14 c256_i32_673
  v1330
def k0_off43 (k0_t2 : Fin k0_t2_loop.trips) (c0_i32_10 : BitVec 32) : Fin 3 → Nat :=
  let c0_674 : Index := 0#32
  let c0_675 : Index := 0#32
  let c2_i32 : BitVec 32 := 2#32
  let c0_i32_5 : BitVec 32 := 0#32
  let c1_i32_7 : BitVec 32 := 1#32
  let arg9 : BitVec 32 := Scf.iv c0_i32_5 c1_i32_7 k0_t2
  let v13 : BitVec 32 := Scalar.muli c2_i32 arg9
  let v14 : BitVec 32 := Scalar.addi v13 c0_i32_10
  let c256_i32_673 : BitVec 32 := 256#32
  let v1330 : BitVec 32 := Scalar.muli v14 c256_i32_673
  let v1331 : BitVec 32 := v1330
  let v1332 : Index := Scalar.indexCast v1331
  ![0, 0, v1332.toNat]
def k0_mult110 (k0_t2 : Fin k0_t2_loop.trips) : BitVec 32 :=
  let c2_i32 : BitVec 32 := 2#32
  let c0_i32_5 : BitVec 32 := 0#32
  let c1_i32_7 : BitVec 32 := 1#32
  let arg9 : BitVec 32 := Scf.iv c0_i32_5 c1_i32_7 k0_t2
  let v13 : BitVec 32 := Scalar.muli c2_i32 arg9
  let c0_i32_10 : BitVec 32 := 0#32
  let v14 : BitVec 32 := Scalar.addi v13 c0_i32_10
  let c256_i32_677 : BitVec 32 := 256#32
  let v1340 : BitVec 32 := Scalar.muli v14 c256_i32_677
  v1340
def k0_off44 (k0_t2 : Fin k0_t2_loop.trips) (c0_i32_10 : BitVec 32) : Fin 3 → Nat :=
  let c1_678 : Index := 1#32
  let c0_679 : Index := 0#32
  let c2_i32 : BitVec 32 := 2#32
  let c0_i32_5 : BitVec 32 := 0#32
  let c1_i32_7 : BitVec 32 := 1#32
  let arg9 : BitVec 32 := Scf.iv c0_i32_5 c1_i32_7 k0_t2
  let v13 : BitVec 32 := Scalar.muli c2_i32 arg9
  let v14 : BitVec 32 := Scalar.addi v13 c0_i32_10
  let c256_i32_677 : BitVec 32 := 256#32
  let v1340 : BitVec 32 := Scalar.muli v14 c256_i32_677
  let v1341 : BitVec 32 := v1340
  let v1342 : Index := Scalar.indexCast v1341
  ![1, 0, v1342.toNat]
def k0_mult111 (k0_t2 : Fin k0_t2_loop.trips) : BitVec 32 :=
  let c2_i32_681 : BitVec 32 := 2#32
  let c0_i32_5 : BitVec 32 := 0#32
  let c1_i32_7 : BitVec 32 := 1#32
  let arg9 : BitVec 32 := Scf.iv c0_i32_5 c1_i32_7 k0_t2
  let v1347 : BitVec 32 := Scalar.muli c2_i32_681 arg9
  let c1_i32_682 : BitVec 32 := 1#32
  let v1348 : BitVec 32 := Scalar.addi v1347 c1_i32_682
  let c128_i32_683 : BitVec 32 := 128#32
  let v1349 : BitVec 32 := Scalar.muli v1348 c128_i32_683
  let c0_i32_684 : BitVec 32 := 0#32
  let v1350 : BitVec 32 := Scalar.addi v1349 c0_i32_684
  v1350
def k0_mult112 (k0_t2 : Fin k0_t2_loop.trips) : BitVec 32 :=
  let c2_i32_681 : BitVec 32 := 2#32
  let c0_i32_5 : BitVec 32 := 0#32
  let c1_i32_7 : BitVec 32 := 1#32
  let arg9 : BitVec 32 := Scf.iv c0_i32_5 c1_i32_7 k0_t2
  let v1347 : BitVec 32 := Scalar.muli c2_i32_681 arg9
  let c1_i32_682 : BitVec 32 := 1#32
  let v1348 : BitVec 32 := Scalar.addi v1347 c1_i32_682
  let c128_i32_749 : BitVec 32 := 128#32
  let v1477 : BitVec 32 := Scalar.muli v1348 c128_i32_749
  let c32_i32_750 : BitVec 32 := 32#32
  let v1478 : BitVec 32 := Scalar.addi v1477 c32_i32_750
  v1478
def k0_mult113 (k0_t2 : Fin k0_t2_loop.trips) : BitVec 32 :=
  let c2_i32_681 : BitVec 32 := 2#32
  let c0_i32_5 : BitVec 32 := 0#32
  let c1_i32_7 : BitVec 32 := 1#32
  let arg9 : BitVec 32 := Scf.iv c0_i32_5 c1_i32_7 k0_t2
  let v1347 : BitVec 32 := Scalar.muli c2_i32_681 arg9
  let c1_i32_682 : BitVec 32 := 1#32
  let v1348 : BitVec 32 := Scalar.addi v1347 c1_i32_682
  let c128_i32_815 : BitVec 32 := 128#32
  let v1605 : BitVec 32 := Scalar.muli v1348 c128_i32_815
  let c64_i32_816 : BitVec 32 := 64#32
  let v1606 : BitVec 32 := Scalar.addi v1605 c64_i32_816
  v1606
def k0_mult114 (k0_t2 : Fin k0_t2_loop.trips) : BitVec 32 :=
  let c2_i32_681 : BitVec 32 := 2#32
  let c0_i32_5 : BitVec 32 := 0#32
  let c1_i32_7 : BitVec 32 := 1#32
  let arg9 : BitVec 32 := Scf.iv c0_i32_5 c1_i32_7 k0_t2
  let v1347 : BitVec 32 := Scalar.muli c2_i32_681 arg9
  let c1_i32_682 : BitVec 32 := 1#32
  let v1348 : BitVec 32 := Scalar.addi v1347 c1_i32_682
  let c128_i32_881 : BitVec 32 := 128#32
  let v1733 : BitVec 32 := Scalar.muli v1348 c128_i32_881
  let c96_i32_882 : BitVec 32 := 96#32
  let v1734 : BitVec 32 := Scalar.addi v1733 c96_i32_882
  v1734
def k0_mult115 (k0_t2 : Fin k0_t2_loop.trips) : BitVec 32 :=
  let c2_i32_681 : BitVec 32 := 2#32
  let c0_i32_5 : BitVec 32 := 0#32
  let c1_i32_7 : BitVec 32 := 1#32
  let arg9 : BitVec 32 := Scf.iv c0_i32_5 c1_i32_7 k0_t2
  let v1347 : BitVec 32 := Scalar.muli c2_i32_681 arg9
  let c1_i32_682 : BitVec 32 := 1#32
  let v1348 : BitVec 32 := Scalar.addi v1347 c1_i32_682
  let c128_i32_947 : BitVec 32 := 128#32
  let v1861 : BitVec 32 := Scalar.muli v1348 c128_i32_947
  let c0_i32_948 : BitVec 32 := 0#32
  let v1862 : BitVec 32 := Scalar.addi v1861 c0_i32_948
  v1862
def k0_mult116 (k0_t2 : Fin k0_t2_loop.trips) : BitVec 32 :=
  let c2_i32_681 : BitVec 32 := 2#32
  let c0_i32_5 : BitVec 32 := 0#32
  let c1_i32_7 : BitVec 32 := 1#32
  let arg9 : BitVec 32 := Scf.iv c0_i32_5 c1_i32_7 k0_t2
  let v1347 : BitVec 32 := Scalar.muli c2_i32_681 arg9
  let c1_i32_682 : BitVec 32 := 1#32
  let v1348 : BitVec 32 := Scalar.addi v1347 c1_i32_682
  let c128_i32_1013 : BitVec 32 := 128#32
  let v1989 : BitVec 32 := Scalar.muli v1348 c128_i32_1013
  let c32_i32_1014 : BitVec 32 := 32#32
  let v1990 : BitVec 32 := Scalar.addi v1989 c32_i32_1014
  v1990
def k0_mult117 (k0_t2 : Fin k0_t2_loop.trips) : BitVec 32 :=
  let c2_i32_681 : BitVec 32 := 2#32
  let c0_i32_5 : BitVec 32 := 0#32
  let c1_i32_7 : BitVec 32 := 1#32
  let arg9 : BitVec 32 := Scf.iv c0_i32_5 c1_i32_7 k0_t2
  let v1347 : BitVec 32 := Scalar.muli c2_i32_681 arg9
  let c1_i32_682 : BitVec 32 := 1#32
  let v1348 : BitVec 32 := Scalar.addi v1347 c1_i32_682
  let c128_i32_1079 : BitVec 32 := 128#32
  let v2117 : BitVec 32 := Scalar.muli v1348 c128_i32_1079
  let c64_i32_1080 : BitVec 32 := 64#32
  let v2118 : BitVec 32 := Scalar.addi v2117 c64_i32_1080
  v2118
def k0_mult118 (k0_t2 : Fin k0_t2_loop.trips) : BitVec 32 :=
  let c2_i32_681 : BitVec 32 := 2#32
  let c0_i32_5 : BitVec 32 := 0#32
  let c1_i32_7 : BitVec 32 := 1#32
  let arg9 : BitVec 32 := Scf.iv c0_i32_5 c1_i32_7 k0_t2
  let v1347 : BitVec 32 := Scalar.muli c2_i32_681 arg9
  let c1_i32_682 : BitVec 32 := 1#32
  let v1348 : BitVec 32 := Scalar.addi v1347 c1_i32_682
  let c128_i32_1145 : BitVec 32 := 128#32
  let v2245 : BitVec 32 := Scalar.muli v1348 c128_i32_1145
  let c96_i32_1146 : BitVec 32 := 96#32
  let v2246 : BitVec 32 := Scalar.addi v2245 c96_i32_1146
  v2246
def k0_mult119 (k0_t2 : Fin k0_t2_loop.trips) : BitVec 32 :=
  let c2_i32_681 : BitVec 32 := 2#32
  let c0_i32_5 : BitVec 32 := 0#32
  let c1_i32_7 : BitVec 32 := 1#32
  let arg9 : BitVec 32 := Scf.iv c0_i32_5 c1_i32_7 k0_t2
  let v1347 : BitVec 32 := Scalar.muli c2_i32_681 arg9
  let c1_i32_682 : BitVec 32 := 1#32
  let v1348 : BitVec 32 := Scalar.addi v1347 c1_i32_682
  let c256_i32_1211 : BitVec 32 := 256#32
  let v2376 : BitVec 32 := Scalar.muli v1348 c256_i32_1211
  v2376
def k0_mult120 (k0_t2 : Fin k0_t2_loop.trips) : BitVec 32 :=
  let c2_i32_681 : BitVec 32 := 2#32
  let c0_i32_5 : BitVec 32 := 0#32
  let c1_i32_7 : BitVec 32 := 1#32
  let arg9 : BitVec 32 := Scf.iv c0_i32_5 c1_i32_7 k0_t2
  let v1347 : BitVec 32 := Scalar.muli c2_i32_681 arg9
  let c1_i32_682 : BitVec 32 := 1#32
  let v1348 : BitVec 32 := Scalar.addi v1347 c1_i32_682
  let c256_i32_1215 : BitVec 32 := 256#32
  let v2386 : BitVec 32 := Scalar.muli v1348 c256_i32_1215
  v2386
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S8x1x16384 : Shape := ⟨3, ![8, 1, 16384]⟩
abbrev S4096x8192 : Shape := ⟨2, ![4096, 8192]⟩
abbrev S1024x8192 : Shape := ⟨2, ![1024, 8192]⟩
abbrev S8x16384 : Shape := ⟨2, ![8, 16384]⟩
abbrev S8x8192 : Shape := ⟨2, ![8, 8192]⟩
abbrev S256x16x8192 : Shape := ⟨3, ![256, 16, 8192]⟩
abbrev S256x8192 : Shape := ⟨2, ![256, 8192]⟩
abbrev S256x1x8192 : Shape := ⟨3, ![256, 1, 8192]⟩
abbrev S8x4096 : Shape := ⟨2, ![8, 4096]⟩

abbrev nBuf : Space → Nat
  | .hbm => 6
  | .vmem => 5
  | .smem => 0
  | _ => 0

abbrev bufTy : (tb : Table) → Fin (tcTables nBuf tb) → BufTy
  | .hbm, ⟨0, _⟩ => ⟨S8x1x16384, .bf16⟩
  | .hbm, ⟨1, _⟩ => ⟨S4096x8192, .i8⟩
  | .hbm, ⟨2, _⟩ => ⟨S1024x8192, .bf16⟩
  | .hbm, ⟨3, _⟩ => ⟨S1024x8192, .bf16⟩
  | .hbm, ⟨4, _⟩ => ⟨S8x16384, .bf16⟩
  | .hbm, ⟨5, _⟩ => ⟨S8x8192, .bf16⟩
  | .local _ .vmem, ⟨0, _⟩ => ⟨S8x16384, .bf16⟩
  | .local _ .vmem, ⟨1, _⟩ => ⟨S4096x8192, .i8⟩
  | .local _ .vmem, ⟨2, _⟩ => ⟨S1024x8192, .bf16⟩
  | .local _ .vmem, ⟨3, _⟩ => ⟨S1024x8192, .bf16⟩
  | .local _ .vmem, ⟨4, _⟩ => ⟨S8x8192, .bf16⟩
  | _, _ => ⟨S8x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelFrame.lean ====
/- The frame of the printed kernel: from any memory every execution ends, its argument arrays unchanged and every semaphore
   counter at zero. What the kernel leaves in its output is not named here. The body's run goes through the two
   counted loops by their generated invariants. -/
module

public import proofs.«01_k».proof.Proof.Gen.Kernel.Frame
public import proofs.«01_k».proof.Proof.Gen.Kernel.Loops
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The kernel body on any staging memrefs -/

/-- The condition of the body's `scf.if`, from the grid coordinates. -/
abbrev cond0_0 (i : grid0.Coords) : Prop := (Scalar.cmpi .ne (Scalar.extui (Scalar.cmpi .eq (BitVec.ofNat 32 (i 0).val) 0#32)) 0#32) = 1#1

set_option maxHeartbeats 4000000 in
/-- The body on whole staging memrefs, at any point (the `scf.if` taken or not): it gives the inputs back as they
    were and everything it writes at some contents. -/
theorem body_run (c : Dev nD) (i : grid0.Coords) (arg1 : Memref sig .tc .vmem S8x16384 .bf16) (harg1 : arg1.IsWhole) (arg2 : Memref sig .tc .vmem S4096x512 .i8) (harg2 : arg2.IsWhole) (arg3 : Memref sig .tc .vmem S1024x512 .bf16) (harg3 : arg3.IsWhole) (arg4 : Memref sig .tc .vmem S1024x512 .bf16) (harg4 : arg4.IsWhole)
    (arg5 : Memref sig .tc .vmem S8x512 .bf16) (harg5 : arg5.IsWhole) (arg6 : Memref sig .tc .vmem S2x8x8192 .bf16) (harg6 : arg6.IsWhole) (arg7 : Memref sig .tc .vmem S4x2x2x256x128 .bf16) (harg7 : arg7.IsWhole) (arg8 : Memref sig .tc .vmem S4x2x2x256x128 .bf16) (harg8 : arg8.IsWhole)
    (x0 : Vec F S8x16384 .bf16) (x1 : Vec F S4096x512 .i8) (x2 : Vec F S1024x512 .bf16) (x3 : Vec F S1024x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_w2a16_linear i arg1 harg1 arg2 harg2 arg3 harg3 arg4 harg4 arg5 harg5 arg6 harg6 arg7 harg7 arg8 harg8) K := by
  simp only [cc0_w2a16_linear_eq_skeleton]; unfold cc0_w2a16_linear_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  by_cases hc0 : cond0_0 i
  all_goals
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S8x16384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2x8x8192 .bf16 := Memref.whole cc0_scratch0
abbrev scM0_1 : Memref sig .tc .vmem S4x2x2x256x128 .bf16 := Memref.whole cc0_scratch1
abbrev scM0_2 : Memref sig .tc .vmem S4x2x2x256x128 .bf16 := Memref.whole cc0_scratch2

/-- What the pipeline keeps between points: the scratch buffers, owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The pipeline's proof data -/

/-- The output window, of which nothing is named here. -/
def forgets0 : Fin 5 → Bool := fun w => w.val == 4

/-- The proof data of the one pipeline on core `c`: the arrays as the pipeline finds them; after the body at point
    `t` each input's buffer at its block and the output's left unnamed; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the contents the pipeline finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 1600000 in
/-- The body at any point: each input's buffer holds its block (`before0_…`), so the body's run applies; the
    scratch buffers are taken and given back at some contents, and the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩⟩
  iapply (body_run c (grid0.coords t) _ (hs0_0 t) _ (hs0_1 t) _ (hs0_2 t) _ (hs0_3 t) _ (hs0_4 t) _ (Memref.isWhole_whole _) _ (Memref.isWhole_whole _) _ (Memref.isWhole_whole _)
    (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's triple at every point, in the pipeline library's form. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The frame claim's post from the frame run's -/

/-- A run to the pipeline library's final state leaves the argument arrays unchanged. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-! ## The run and the frame -/

-- `θ_run_frame_forget`'s implicit arguments are found by unifying its conclusion with this one, which takes unfolding plain
-- definitions in a metavariable's type
set_option backward.isDefEq.respectTransparency.types false in
set_option maxHeartbeats 800000 in
/-- Every execution ends, with every input array unchanged and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every execution ends with the argument arrays unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forget m ρ (fun c => (dats m 0 c).toRForget forgets0) (A_eq m) (run_main m ρ)

/-- The frame: every execution ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.Tile.lean ====
/- The arithmetic of one trip of the kernel's counted loops, written once as functions of the values the trip loads. Both loops' trips are
   shown to be this function of their loads. -/
module

public import proofs.«01_k».proof.Proof.Gen.KernelIdeal.Loops

@[expose] public section

set_option maxRecDepth 16384

noncomputable section

namespace Cert.KernelIdeal.Hand

open Cert.KernelIdeal.Gen
open Idealize.ShloMosaic Idealize.ShloMosaic.TcCoe
open Idealize.SL.Sem

variable {F : FTy → Type} [FloatOps F]

/-- The words of 32 packed rows of bytes, shifted for the field pair `q`: pair 0 is the low two bits of each nibble, pair 1 the high two. -/
def words (q : Fin 2) (v : Vec F S32x128 .i8) : IVec S8x128 32 :=
  match q with
  | 0 => bitcast S8x128 32 v bitcasts_S32x128_w8_S8x128_w32
  | 1 => shrui (bitcast S8x128 32 v bitcasts_S32x128_w8_S8x128_w32) (broadcast S8x128 2#32)

/-- The 64 rows of codes of 32 packed rows of bytes: the nibbles of each word, low to high, as numbers. -/
def codes (q : Fin 2) (v : Vec F S32x128 .i8) : FVec F S64x128 .bf16 :=
  sitofp .bf16 (shapeCast S64x128
    (andi
      (shrui
        (broadcastTo S8x8x128 (shapeCast S8x1x128 (andi (words q v) (broadcast S8x128 858993459#32)) shapeCasts_S8x128_S8x1x128)
          broadcasts_S8x1x128_S8x8x128)
        (muli (broadcast S8x8x128 4#32) (iota .tc S8x8x128 32 [1] iota_S8x8x128_d1_w32)))
      (broadcast S8x8x128 15#32))
    shapeCasts_S8x8x128_S64x128)

/-- Two rows of scales (or minima) repeated eight times, alternately: 16 rows. -/
def groupRows (r : Vec F S1x1x1x2x128 .bf16) : FVec F S16x128 .bf16 :=
  let lo : FVec F S1x128 .bf16 := shapeCast S1x128 (rowsOfParity 0 S1x1x1x1x128 r bitcasts_S1x1x1x2x128_w16_S1x1x1x1x128_w32) shapeCasts_S1x1x1x1x128_S1x128
  let hi : FVec F S1x128 .bf16 := shapeCast S1x128 (rowsOfParity 1 S1x1x1x1x128 r bitcasts_S1x1x1x2x128_w16_S1x1x1x1x128_w32) shapeCasts_S1x1x1x1x128_S1x128
  interleaveRows S16x128
    (concatenate S8x128 0 [⟨S1x128, lo⟩, ⟨S1x128, lo⟩, ⟨S1x128, lo⟩, ⟨S1x128, lo⟩, ⟨S1x128, lo⟩, ⟨S1x128, lo⟩, ⟨S1x128, lo⟩, ⟨S1x128, lo⟩] concatenates_S1x128_S1x128_S1x128_S1x128_S1x128_S1x128_S1x128_S1x128_S8x128_d0)
    (concatenate S8x128 0 [⟨S1x128, hi⟩, ⟨S1x128, hi⟩, ⟨S1x128, hi⟩, ⟨S1x128, hi⟩, ⟨S1x128, hi⟩, ⟨S1x128, hi⟩, ⟨S1x128, hi⟩, ⟨S1x128, hi⟩] concatenates_S1x128_S1x128_S1x128_S1x128_S1x128_S1x128_S1x128_S1x128_S8x128_d0)
    bitcasts_S16x128_w16_S8x128_w32

/-- Sixteen rows of weights, from row `o` of the codes: code times scale plus minimum. -/
def piece (o : Nat) (h : S64x128.Slices ![o, 0] S16x128) (c : FVec F S64x128 .bf16) (s m : Vec F S1x1x1x2x128 .bf16) : FVec F S16x128 .bf16 :=
  addf (mulf (extractStridedSlice S16x128 ![o, 0] c h) (groupRows s)) (groupRows m)

/-- One lane tile of a unit's weights: 256 rows, from four loads of 32 rows of bytes. -/
def column (q : Fin 2) (W : Fin 4 → Vec F S32x128 .i8) (S M : Fin 4 → Fin 2 → Vec F S1x1x1x2x128 .bf16) : FVec F S256x128 .bf16 :=
  concatenate S256x128 0
    [⟨S16x128, piece 0 slices_S64x128_o0_0_S16x128 (codes q (W 0)) (S 0 0) (M 0 0)⟩,
     ⟨S16x128, piece 16 slices_S64x128_o16_0_S16x128 (codes q (W 0)) (S 0 0) (M 0 0)⟩,
     ⟨S16x128, piece 32 slices_S64x128_o32_0_S16x128 (codes q (W 0)) (S 0 1) (M 0 1)⟩,
     ⟨S16x128, piece 48 slices_S64x128_o48_0_S16x128 (codes q (W 0)) (S 0 1) (M 0 1)⟩,
     ⟨S16x128, piece 0 slices_S64x128_o0_0_S16x128 (codes q (W 1)) (S 1 0) (M 1 0)⟩,
     ⟨S16x128, piece 16 slices_S64x128_o16_0_S16x128 (codes q (W 1)) (S 1 0) (M 1 0)⟩,
     ⟨S16x128, piece 32 slices_S64x128_o32_0_S16x128 (codes q (W 1)) (S 1 1) (M 1 1)⟩,
     ⟨S16x128, piece 48 slices_S64x128_o48_0_S16x128 (codes q (W 1)) (S 1 1) (M 1 1)⟩,
     ⟨S16x128, piece 0 slices_S64x128_o0_0_S16x128 (codes q (W 2)) (S 2 0) (M 2 0)⟩,
     ⟨S16x128, piece 16 slices_S64x128_o16_0_S16x128 (codes q (W 2)) (S 2 0) (M 2 0)⟩,
     ⟨S16x128, piece 32 slices_S64x128_o32_0_S16x128 (codes q (W 2)) (S 2 1) (M 2 1)⟩,
     ⟨S16x128, piece 48 slices_S64x128_o48_0_S16x128 (codes q (W 2)) (S 2 1) (M 2 1)⟩,
     ⟨S16x128, piece 0 slices_S64x128_o0_0_S16x128 (codes q (W 3)) (S 3 0) (M 3 0)⟩,
     ⟨S16x128, piece 16 slices_S64x128_o16_0_S16x128 (codes q (W 3)) (S 3 0) (M 3 0)⟩,
     ⟨S16x128, piece 32 slices_S64x128_o32_0_S16x128 (codes q (W 3)) (S 3 1) (M 3 1)⟩,
     ⟨S16x128, piece 48 slices_S64x128_o48_0_S16x128 (codes q (W 3)) (S 3 1) (M 3 1)⟩]
    concatenates_S16x128_S16x128_S16x128_S16x128_S16x128_S16x128_S16x128_S16x128_S16x128_S16x128_S16x128_S16x128_S16x128_S16x128_S16x128_S16x128_S256x128_d0

/-- The product of a unit's weights with its activations, added to the accumulator. -/
def part (acc : FVec F S8x256 .f32) (x : Vec F S1x8x256 .bf16) (l r : FVec F S256x128 .bf16) : FVec F S8x256 .f32 :=
  addf acc (matmul dot_S8x256_S256x256_S8x256_1_0_0_1_n_n none (shapeCast S8x256 x shapeCasts_S1x8x256_S8x256)
    (concatenate S256x256 1 [⟨S256x128, l⟩, ⟨S256x128, r⟩] concatenates_S256x128_S256x128_S256x256_d1)
    (constant S8x256 .f32 0x00000000#32))

/-- One unit (`half` of the trip), both field pairs. The loads are indexed by lane tile, pair, load of 32 rows, group. -/
def unit (acc : FVec F S8x256 .f32) (W : Fin 2 → Fin 4 → Vec F S32x128 .i8) (S M : Fin 2 → Fin 2 → Fin 4 → Fin 2 → Vec F S1x1x1x2x128 .bf16)
    (X : Fin 2 → Vec F S1x8x256 .bf16) : FVec F S8x256 .f32 :=
  part (part acc (X 0) (column 0 (W 0) (S 0 0) (M 0 0)) (column 0 (W 1) (S 1 0) (M 1 0)))
    (X 1) (column 1 (W 0) (S 0 1) (M 0 1)) (column 1 (W 1) (S 1 1) (M 1 1))

/-- One trip: two units, one after the other. -/
def trip (acc : FVec F S8x256 .f32) (W : Fin 2 → Fin 2 → Fin 4 → Vec F S32x128 .i8)
    (S M : Fin 2 → Fin 2 → Fin 2 → Fin 4 → Fin 2 → Vec F S1x1x1x2x128 .bf16) (X : Fin 2 → Fin 2 → Vec F S1x8x256 .bf16) : FVec F S8x256 .f32 :=
  unit (unit acc (W 0) (S 0) (M 0) (X 0)) (W 1) (S 1) (M 1) (X 1)

/-! ## The loads of a trip of loop 1 -/

/-- The bytes. -/
def word1 (a : Memref sig .tc .vmem S4096x512 .i8) (X : BufTy.Contents (Elt F) a.view.ty) (k : Fin k0_t1_loop.trips) (h l : Fin 2) (v : Fin 4) : Vec F S32x128 .i8 :=
  match l with
  | 0 => View.readAt (Elt F) a.view (Rect.unit (s := S4096x512) (k0_off11 k (BitVec.ofNat 32 h.val) (BitVec.ofNat 32 (32 * v.val))) S32x128.size (k0_off11_inb k h v)).toLoadRect X
  | 1 => View.readAt (Elt F) a.view (Rect.unit (s := S4096x512) (k0_off16 k (BitVec.ofNat 32 h.val) (BitVec.ofNat 32 (32 * v.val))) S32x128.size (k0_off16_inb k h v)).toLoadRect X

/-- A pair of rows of scales (or minima), read back from what the trip stored. -/
def rows1 (a : Memref sig .tc .vmem S4x2x2x256x128 .bf16) (L : List (View.Piece (Elt F) S4x2x2x256x128 .bf16)) (k : Fin k0_t1_loop.trips) (h l q : Fin 2) (v : Fin 4) (g : Fin 2) :
    Vec F S1x1x1x2x128 .bf16 :=
  match l, q, g with
  | 0, 0, 0 => a.view.readCov L (Rect.unit (s := S4x2x2x256x128) (k0_off12 k (BitVec.ofNat 32 (4 * h.val)) (BitVec.ofNat 32 v.val)) S1x1x1x2x128.size (k0_off12_inb k h v)).toLoadRect
  | 0, 0, 1 => a.view.readCov L (Rect.unit (s := S4x2x2x256x128) (k0_off13 k (BitVec.ofNat 32 (4 * h.val)) (BitVec.ofNat 32 v.val)) S1x1x1x2x128.size (k0_off13_inb k h v)).toLoadRect
  | 0, 1, 0 => a.view.readCov L (Rect.unit (s := S4x2x2x256x128) (k0_off14 k (BitVec.ofNat 32 (4 * h.val)) (BitVec.ofNat 32 v.val)) S1x1x1x2x128.size (k0_off14_inb k h v)).toLoadRect
  | 0, 1, 1 => a.view.readCov L (Rect.unit (s := S4x2x2x256x128) (k0_off15 k (BitVec.ofNat 32 (4 * h.val)) (BitVec.ofNat 32 v.val)) S1x1x1x2x128.size (k0_off15_inb k h v)).toLoadRect
  | 1, 0, 0 => a.view.readCov L (Rect.unit (s := S4x2x2x256x128) (k0_off17 k (BitVec.ofNat 32 (4 * h.val)) (BitVec.ofNat 32 v.val)) S1x1x1x2x128.size (k0_off17_inb k h v)).toLoadRect
  | 1, 0, 1 => a.view.readCov L (Rect.unit (s := S4x2x2x256x128) (k0_off18 k (BitVec.ofNat 32 (4 * h.val)) (BitVec.ofNat 32 v.val)) S1x1x1x2x128.size (k0_off18_inb k h v)).toLoadRect
  | 1, 1, 0 => a.view.readCov L (Rect.unit (s := S4x2x2x256x128) (k0_off19 k (BitVec.ofNat 32 (4 * h.val)) (BitVec.ofNat 32 v.val)) S1x1x1x2x128.size (k0_off19_inb k h v)).toLoadRect
  | 1, 1, 1 => a.view.readCov L (Rect.unit (s := S4x2x2x256x128) (k0_off20 k (BitVec.ofNat 32 (4 * h.val)) (BitVec.ofNat 32 v.val)) S1x1x1x2x128.size (k0_off20_inb k h v)).toLoadRect

/-- The interleaved activations. -/
def acts1 (a : Memref sig .tc .vmem S2x8x8192 .bf16) (X : BufTy.Contents (Elt F) a.view.ty) (k : Fin k0_t1_loop.trips) (h q : Fin 2) : Vec F S1x8x256 .bf16 :=
  match q with
  | 0 => View.readAt (Elt F) a.view (Rect.unit (s := S2x8x8192) (k0_off21 k (BitVec.ofNat 32 h.val)) S1x8x256.size (k0_off21_inb k h)).toLoadRect X
  | 1 => View.readAt (Elt F) a.view (Rect.unit (s := S2x8x8192) (k0_off22 k (BitVec.ofNat 32 h.val)) S1x8x256.size (k0_off22_inb k h)).toLoadRect X

/-- A trip of loop 1 is the trip above of its loads: it reads of the two row scratches only what it has just stored there. -/
theorem trip1_eq (𝒱 : Variants) (c : Dev nD) (bd : Option 𝒱.V) (i : grid0.Coords) (arg1 : Memref sig .tc .vmem S8x16384 .bf16) (harg1 : arg1.IsWhole) (arg2 : Memref sig .tc .vmem S4096x512 .i8) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S8x512 .bf16) (harg5 : arg5.IsWhole) (arg6 : Memref sig .tc .vmem S2x8x8192 .bf16) (harg6 : arg6.IsWhole) (arg7 : Memref sig .tc .vmem S4x2x2x256x128 .bf16) (harg7 : arg7.IsWhole) (arg8 : Memref sig .tc .vmem S4x2x2x256x128 .bf16) (harg8 : arg8.IsWhole) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (k : Fin k0_t1_loop.trips)
    (acc : FVec F S8x256 .f32) (f_arg7 : BufTy.Contents (Elt F) arg7.view.ty) (f_arg8 : BufTy.Contents (Elt F) arg8.view.ty) :
    tripR_k0_t1 𝒱 c bd i arg1 harg1 arg2 harg2 arg3 harg3 arg4 harg4 arg5 harg5 arg6 harg6 arg7 harg7 arg8 harg8 X_arg2 X_arg3 X_arg4 X_arg6 k acc f_arg7 f_arg8
      = trip acc (word1 arg2 X_arg2 k) (rows1 arg7 (trip_k0_t1.sl.HW_arg7_8 arg3 X_arg3 k) k) (rows1 arg8 (trip_k0_t1.sl.HW_arg8_8 arg4 X_arg4 k) k)
          (acts1 arg6 X_arg6 k) := by
  unfold tripR_k0_t1 trip_k0_t1
  rfl

/-! ## The loads of a trip of loop 2 -/

/-- The bytes. -/
def word2 (a : Memref sig .tc .vmem S4096x512 .i8) (X : BufTy.Contents (Elt F) a.view.ty) (k : Fin k0_t2_loop.trips) (h l : Fin 2) (v : Fin 4) : Vec F S32x128 .i8 :=
  match l with
  | 0 => View.readAt (Elt F) a.view (Rect.unit (s := S4096x512) (k0_off33 k (BitVec.ofNat 32 h.val) (BitVec.ofNat 32 (32 * v.val))) S32x128.size (k0_off33_inb k h v)).toLoadRect X
  | 1 => View.readAt (Elt F) a.view (Rect.unit (s := S4096x512) (k0_off38 k (BitVec.ofNat 32 h.val) (BitVec.ofNat 32 (32 * v.val))) S32x128.size (k0_off38_inb k h v)).toLoadRect X

/-- A pair of rows of scales (or minima), read back from what the trip stored. -/
def rows2 (a : Memref sig .tc .vmem S4x2x2x256x128 .bf16) (L : List (View.Piece (Elt F) S4x2x2x256x128 .bf16)) (k : Fin k0_t2_loop.trips) (h l q : Fin 2) (v : Fin 4) (g : Fin 2) :
    Vec F S1x1x1x2x128 .bf16 :=
  match l, q, g with
  | 0, 0, 0 => a.view.readCov L (Rect.unit (s := S4x2x2x256x128) (k0_off34 k (BitVec.ofNat 32 (4 * h.val)) (BitVec.ofNat 32 v.val)) S1x1x1x2x128.size (k0_off34_inb k h v)).toLoadRect
  | 0, 0, 1 => a.view.readCov L (Rect.unit (s := S4x2x2x256x128) (k0_off35 k (BitVec.ofNat 32 (4 * h.val)) (BitVec.ofNat 32 v.val)) S1x1x1x2x128.size (k0_off35_inb k h v)).toLoadRect
  | 0, 1, 0 => a.view.readCov L (Rect.unit (s := S4x2x2x256x128) (k0_off36 k (BitVec.ofNat 32 (4 * h.val)) (BitVec.ofNat 32 v.val)) S1x1x1x2x128.size (k0_off36_inb k h v)).toLoadRect
  | 0, 1, 1 => a.view.readCov L (Rect.unit (s := S4x2x2x256x128) (k0_off37 k (BitVec.ofNat 32 (4 * h.val)) (BitVec.ofNat 32 v.val)) S1x1x1x2x128.size (k0_off37_inb k h v)).toLoadRect
  | 1, 0, 0 => a.view.readCov L (Rect.unit (s := S4x2x2x256x128) (k0_off39 k (BitVec.ofNat 32 (4 * h.val)) (BitVec.ofNat 32 v.val)) S1x1x1x2x128.size (k0_off39_inb k h v)).toLoadRect
  | 1, 0, 1 => a.view.readCov L (Rect.unit (s := S4x2x2x256x128) (k0_off40 k (BitVec.ofNat 32 (4 * h.val)) (BitVec.ofNat 32 v.val)) S1x1x1x2x128.size (k0_off40_inb k h v)).toLoadRect
  | 1, 1, 0 => a.view.readCov L (Rect.unit (s := S4x2x2x256x128) (k0_off41 k (BitVec.ofNat 32 (4 * h.val)) (BitVec.ofNat 32 v.val)) S1x1x1x2x128.size (k0_off41_inb k h v)).toLoadRect
  | 1, 1, 1 => a.view.readCov L (Rect.unit (s := S4x2x2x256x128) (k0_off42 k (BitVec.ofNat 32 (4 * h.val)) (BitVec.ofNat 32 v.val)) S1x1x1x2x128.size (k0_off42_inb k h v)).toLoadRect

/-- The interleaved activations. -/
def acts2 (a : Memref sig .tc .vmem S2x8x8192 .bf16) (X : BufTy.Contents (Elt F) a.view.ty) (k : Fin k0_t2_loop.trips) (h q : Fin 2) : Vec F S1x8x256 .bf16 :=
  match q with
  | 0 => View.readAt (Elt F) a.view (Rect.unit (s := S2x8x8192) (k0_off43 k (BitVec.ofNat 32 h.val)) S1x8x256.size (k0_off43_inb k h)).toLoadRect X
  | 1 => View.readAt (Elt F) a.view (Rect.unit (s := S2x8x8192) (k0_off44 k (BitVec.ofNat 32 h.val)) S1x8x256.size (k0_off44_inb k h)).toLoadRect X

/-- A trip of loop 2 is the trip above of its loads: it reads of the two row scratches only what it has just stored there. -/
theorem trip2_eq (𝒱 : Variants) (c : Dev nD) (bd : Option 𝒱.V) (i : grid0.Coords) (arg1 : Memref sig .tc .vmem S8x16384 .bf16) (harg1 : arg1.IsWhole) (arg2 : Memref sig .tc .vmem S4096x512 .i8) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S8x512 .bf16) (harg5 : arg5.IsWhole) (arg6 : Memref sig .tc .vmem S2x8x8192 .bf16) (harg6 : arg6.IsWhole) (arg7 : Memref sig .tc .vmem S4x2x2x256x128 .bf16) (harg7 : arg7.IsWhole) (arg8 : Memref sig .tc .vmem S4x2x2x256x128 .bf16) (harg8 : arg8.IsWhole) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (k : Fin k0_t2_loop.trips)
    (acc : FVec F S8x256 .f32) (f_arg7 : BufTy.Contents (Elt F) arg7.view.ty) (f_arg8 : BufTy.Contents (Elt F) arg8.view.ty) :
    tripR_k0_t2 𝒱 c bd i arg1 harg1 arg2 harg2 arg3 harg3 arg4 harg4 arg5 harg5 arg6 harg6 arg7 harg7 arg8 harg8 X_arg2 X_arg3 X_arg4 X_arg6 k acc f_arg7 f_arg8
      = trip acc (word2 arg2 X_arg2 k) (rows2 arg7 (trip_k0_t2.sl.HW_arg7_8 arg3 X_arg3 k) k) (rows2 arg8 (trip_k0_t2.sl.HW_arg8_8 arg4 X_arg4 k) k)
          (acts2 arg6 X_arg6 k) := by
  unfold tripR_k0_t2 trip_k0_t2
  rfl

end Cert.KernelIdeal.Hand

end
-- ==== Proof.Spec.lean ====
/- What both programs compute, at natural-number coordinates: the codes, the weights and the product. -/
module

public import Idealize.ShloMosaic.Lib.Pointwise
public import Idealize.ShloMosaic.Lib.BitcastFour
public import Idealize.ShloMosaic.Lib.Pointwise.IndexBridge

@[expose] public section

noncomputable section

namespace Cert.Spec

open Idealize.ShloMosaic

/-- A matrix at natural-number coordinates (the default element outside it). -/
def at2 {α : Type} [Inhabited α] {a b : ℕ} (x : (⟨2, ![a, b]⟩ : Shape).Idx → α) (i j : ℕ) : α :=
  if h : i < a ∧ j < b then x (ix2 ⟨i, h.1⟩ ⟨j, h.2⟩) else default

theorem at2_eq {α : Type} [Inhabited α] {a b : ℕ} (x : (⟨2, ![a, b]⟩ : Shape).Idx → α) (y : (⟨2, ![a, b]⟩ : Shape).Idx) {i j : ℕ}
    (hi : (y 0).val = i) (hj : (y 1).val = j) : x y = at2 x i j := by
  subst hi hj
  unfold at2
  rw [dif_pos ⟨(y 0).isLt, (y 1).isLt⟩]
  exact congrArg x (eq_ix2 y)

theorem at2_ix2 {α : Type} [Inhabited α] {a b : ℕ} (x : (⟨2, ![a, b]⟩ : Shape).Idx → α) (p : Fin a) (q : Fin b) :
    x (ix2 p q) = at2 x p.val q.val := at2_eq x _ rfl rfl

/-- A rank-three array at natural-number coordinates. -/
def at3 {α : Type} [Inhabited α] {a b c : ℕ} (x : (⟨3, ![a, b, c]⟩ : Shape).Idx → α) (i j k : ℕ) : α :=
  if h : i < a ∧ j < b ∧ k < c then x (ix3 ⟨i, h.1⟩ ⟨j, h.2.1⟩ ⟨k, h.2.2⟩) else default

theorem at3_eq {α : Type} [Inhabited α] {a b c : ℕ} (x : (⟨3, ![a, b, c]⟩ : Shape).Idx → α) (y : (⟨3, ![a, b, c]⟩ : Shape).Idx) {i j k : ℕ}
    (hi : (y 0).val = i) (hj : (y 1).val = j) (hk : (y 2).val = k) : x y = at3 x i j k := by
  subst hi hj hk
  unfold at3
  rw [dif_pos ⟨(y 0).isLt, (y 1).isLt, (y 2).isLt⟩]
  exact congrArg x (eq_ix3 y)

/-- Field `j` of a byte: its two bits from bit `2 j`. -/
def field (b : BitVec 8) (j : ℕ) : BitVec 8 := (b >>> (2 * j)) &&& 3#8

/-- Field `j` of a byte as a number. -/
def code (b : BitVec 8) (j : ℕ) : EReal := (((((field b j).toNat : ℕ) : ℤ) : ℝ) : EReal)

theorem code_of_word {w : BitVec 32} {b : BitVec 8} {j : ℕ} (h : w = (field b j).setWidth 32) : (((w.toInt : ℤ) : ℝ) : EReal) = code b j := by
  subst h
  unfold code
  congr 2
  have h8 : (field b j).toNat < 256 := (field b j).isLt
  rw [BitVec.toInt_eq_toNat_of_lt] <;> simp only [BitVec.toNat_setWidth] <;> omega

/-- Column `n` of the weights at row `k` of field `j`: code times the group's scale plus the group's minimum. -/
def weight (B : ℕ → ℕ → BitVec 8) (S M : ℕ → ℕ → EReal) (j k n : ℕ) : EReal :=
  code (B k n) j * S (256 * j + k / 16) n + M (256 * j + k / 16) n

/-- A product and weight at row `k` of field `j`. -/
def term (A : ℕ → ℕ → EReal) (B : ℕ → ℕ → BitVec 8) (S M : ℕ → ℕ → EReal) (i n j k : ℕ) : EReal :=
  A i (4096 * j + k) * weight B S M j k n

/-- The four fields' terms at row `k`. -/
def row4 (A : ℕ → ℕ → EReal) (B : ℕ → ℕ → BitVec 8) (S M : ℕ → ℕ → EReal) (i n k : ℕ) : EReal :=
  term A B S M i n 0 k + term A B S M i n 1 k + term A B S M i n 2 k + term A B S M i n 3 k

end Cert.Spec

end
-- ==== Proof.TileValue.lean ====
/- The arithmetic of a trip at one index: the codes, the weights of a column tile and its products with the activations. -/
module

public import proofs.«01_k».proof.Proof.Tile
public import proofs.«01_k».proof.Proof.Spec

@[expose] public section

set_option maxRecDepth 16384

noncomputable section

namespace Cert.KernelIdeal.Hand

open Cert.KernelIdeal.Gen
open Idealize.ShloMosaic Cert.Spec

/-- Nibble `t` of a word shifted by `2 q` and masked is field `q + 2 (t % 2)` of the byte that holds the nibble. -/
theorem nibble_eq (q : Fin 2) (W : BitVec 32) (b : BitVec 8) (t : ℕ) (ht : t < 8) (hb : ∀ p < 8, W.getLsbD (8 * (t / 2) + p) = b.getLsbD p) :
    ((((W >>> (2 * q.val)) &&& 858993459#32) >>> (4 * t)) &&& 15#32) = (field b (q.val + 2 * (t % 2))).setWidth 32 := by
  apply BitVec.eq_of_getLsbD_eq
  intro i hi
  simp only [field, BitVec.getLsbD_and, BitVec.getLsbD_ushiftRight, BitVec.getLsbD_setWidth]
  by_cases h4 : 4 ≤ i
  · have e1 : (15#32 : BitVec 32).getLsbD i = false := by
      interval_cases i <;> rfl
    have e2 : (3#8 : BitVec 8).getLsbD i = false := by
      interval_cases i <;> rfl
    rw [e1, e2]; simp
  · have hb0 := hb 0 (by omega); have hb1 := hb 1 (by omega); have hb2 := hb 2 (by omega); have hb3 := hb 3 (by omega)
    have hb4 := hb 4 (by omega); have hb5 := hb 5 (by omega); have hb6 := hb 6 (by omega); have hb7 := hb 7 (by omega)
    clear hb
    obtain ⟨q, hq⟩ := q
    interval_cases t <;> interval_cases q <;> interval_cases i <;>
      simp_all

theorem words_bits (q : Fin 2) (w : Vec Ideal S32x128 .i8) (a : Fin 8) (l : Fin 128) :
    words (F := Ideal) q w (ix2 a l) = (bitcast S8x128 32 w bitcasts_S32x128_w8_S8x128_w32 (ix2 a l) : BitVec 32) >>> (2 * q.val) := by
  match q with
  | 0 => rfl
  | 1 => rfl

theorem codes_apply (q : Fin 2) (w : Vec Ideal S32x128 .i8) (i : Fin 64) (l : Fin 128) :
    (codes (F := Ideal) q w (ix2 i l) : EReal) = code (w (ix2 ⟨i.val / 2, by omega⟩ l)) (q.val + 2 * (i.val % 2)) := by
  pointwise [codes]
  rw [words_bits]
  have hs : ∀ W : BitVec 32, IntOp.andi (IntOp.shrui ArithUnit.vector W (IntOp.muli (4#32) (BitVec.ofNat 32 (i.val % 8)))) 15#32 = (W >>> (4 * (i.val % 8))) &&& 15#32 := by
    intro W
    have : i.val % 8 < 8 := Nat.mod_lt _ (by omega)
    generalize i.val % 8 = t at this
    interval_cases t <;> rfl
  rw [hs]
  refine code_of_word ?_
  have e : (i.val % 8) % 2 = i.val % 2 := by omega
  rw [← e]
  refine nibble_eq q _ _ _ (Nat.mod_lt _ (by omega)) fun p hp => ?_
  have hx : (ix2 (⟨i.val / 8, by omega⟩ : Fin 8) l : S8x128.Idx) = ValueIdx.ix2 (⟨i.val / 8, by omega⟩ : Fin 8) l := rfl
  rw [hx, bitcast_8_32_getLsbD_ix2 w _ _ l _ (by omega) ⟨i.val / 2, by omega⟩ (by simp only; omega)]
  rw [show (8 * (i.val % 8 / 2) + p) % 8 = p by omega]
  rfl

theorem groupRows_apply (r : Vec Ideal S1x1x1x2x128 .bf16) (i : Fin 16) (l : Fin 128) :
    groupRows (F := Ideal) r (ix2 i l) = r (ix5 0 0 0 ⟨i.val % 2, by omega⟩ l) := by
  pointwise [groupRows]
  simp only [dite_eq_ite, ite_self]
  split
  · exact congrArg (fun x => r (ix5 0 0 0 x l)) (Fin.ext (by simp only [Fin.val_zero]; omega))
  · exact congrArg (fun x => r (ix5 0 0 0 x l)) (Fin.ext (by simp only [Fin.val_one]; omega))

theorem piece_apply (o : Nat) (ho : o + 16 ≤ 64) (h) (c : FVec Ideal S64x128 .bf16) (s m : Vec Ideal S1x1x1x2x128 .bf16) (i : Fin 16) (l : Fin 128) :
    piece (F := Ideal) o h c s m (ix2 i l) = (c (ix2 ⟨o + i.val, by omega⟩ l) * s (ix5 0 0 0 ⟨i.val % 2, by omega⟩ l) + m (ix5 0 0 0 ⟨i.val % 2, by omega⟩ l) : EReal) := by
  unfold piece
  pointwise [groupRows_apply]

/-- The four offsets of the pieces cut from 64 rows of codes. -/
theorem slices_at (t : Fin 4) : S64x128.Slices ![16 * t.val, 0] S16x128 := by
  revert t; decide

theorem column_eq (q : Fin 2) (W : Fin 4 → Vec Ideal S32x128 .i8) (S M : Fin 4 → Fin 2 → Vec Ideal S1x1x1x2x128 .bf16) :
    column q W S M = concatenate S256x128 0
      (List.ofFn fun t : Fin 16 => (⟨S16x128, piece (16 * (t.val % 4)) (slices_at ⟨t.val % 4, by omega⟩) (codes q (W ⟨t.val / 4, by omega⟩))
        (S ⟨t.val / 4, by omega⟩ ⟨t.val % 4 / 2, by omega⟩) (M ⟨t.val / 4, by omega⟩ ⟨t.val % 4 / 2, by omega⟩)⟩ : (s : Shape) × (s.Idx → EReal)))
      concatenates_S16x128_S16x128_S16x128_S16x128_S16x128_S16x128_S16x128_S16x128_S16x128_S16x128_S16x128_S16x128_S16x128_S16x128_S16x128_S16x128_S256x128_d0 := rfl

theorem column_apply (q : Fin 2) (W : Fin 4 → Vec Ideal S32x128 .i8) (S M : Fin 4 → Fin 2 → Vec Ideal S1x1x1x2x128 .bf16) (R : Fin 256) (l : Fin 128) :
    column q W S M (ix2 R l) = (code (W ⟨R.val / 64, by omega⟩ (ix2 ⟨R.val % 64 / 2, by omega⟩ l)) (q.val + 2 * (R.val % 2))
      * S ⟨R.val / 64, by omega⟩ ⟨R.val % 64 / 32, by omega⟩ (ix5 0 0 0 ⟨R.val % 2, by omega⟩ l)
      + M ⟨R.val / 64, by omega⟩ ⟨R.val % 64 / 32, by omega⟩ (ix5 0 0 0 ⟨R.val % 2, by omega⟩ l) : EReal) := by
  rw [column_eq]
  refine (concatenate_ofFn_apply (t := S256x128) (s₁ := S16x128) 0 _ _ rfl 16 rfl (ix2 R l) ⟨R.val / 16, by omega⟩ rfl
    (ix2 ⟨R.val % 16, by omega⟩ l) rfl (fun b hb => ?_)).trans ?_
  · match b with
    | ⟨0, _⟩ => exact absurd rfl hb
    | ⟨1, _⟩ => rfl
  · rw [piece_apply _ (by simp only; omega), codes_apply]
    have e1 : R.val / 16 / 4 = R.val / 64 := by omega
    have e2 : R.val / 16 % 4 / 2 = R.val % 64 / 32 := by omega
    have e3 : R.val % 16 % 2 = R.val % 2 := by omega
    have e4 : (16 * (R.val / 16 % 4) + R.val % 16) / 2 = R.val % 64 / 2 := by omega
    have e5 : (16 * (R.val / 16 % 4) + R.val % 16) % 2 = R.val % 2 := by omega
    simp only [e1, e2, e3, e4, e5]

theorem part_apply (acc : FVec Ideal S8x256 .f32) (x : Vec Ideal S1x8x256 .bf16) (a b : FVec Ideal S256x128 .bf16) (i : Fin 8) (l : Fin 256) :
    part acc x a b (ix2 i l) = (acc (ix2 i l) + ∑ R : Fin 256, x (ix3 0 i R) * (if h : l.val < 128 then a (ix2 R ⟨l.val, h⟩) else b (ix2 R ⟨l.val - 128, by omega⟩)) : EReal) := by
  pointwise [part]

theorem sum_pairs (f : ℕ → ℕ → EReal) (N : ℕ) :
    ∑ R ∈ Finset.range (2 * N), f (R % 2) (R / 2) = ∑ k ∈ Finset.range N, (f 0 k + f 1 k) := by
  induction N with
  | zero => rfl
  | succ N ih =>
    rw [show 2 * (N + 1) = 2 * N + 1 + 1 by ring, Finset.sum_range_succ, Finset.sum_range_succ, Finset.sum_range_succ, ih]
    rw [show 2 * N % 2 = 0 by omega, show 2 * N / 2 = N by omega, show (2 * N + 1) % 2 = 1 by omega, show (2 * N + 1) / 2 = N by omega, add_assoc]

/-- The values a unit's loads are of: bytes, scales, minima and interleaved activations of unit `u` at the lane block starting at column `n0`. -/
structure UnitLoads (A : ℕ → ℕ → EReal) (B : ℕ → ℕ → BitVec 8) (S M : ℕ → ℕ → EReal) (u n0 : ℕ)
    (W : Fin 2 → Fin 4 → Vec Ideal S32x128 .i8) (Sv Mv : Fin 2 → Fin 2 → Fin 4 → Fin 2 → Vec Ideal S1x1x1x2x128 .bf16)
    (X : Fin 2 → Vec Ideal S1x8x256 .bf16) : Prop where
  bytes : ∀ l v (a : Fin 32) (c : Fin 128), W l v (ix2 a c) = B (128 * u + 32 * v.val + a.val) (n0 + 128 * l.val + c.val)
  scale : ∀ l q v g (s : Fin 2) (c : Fin 128), (Sv l q v g (ix5 0 0 0 s c) : EReal) = S (256 * (q.val + 2 * s.val) + 8 * u + 2 * v.val + g.val) (n0 + 128 * l.val + c.val)
  mins : ∀ l q v g (s : Fin 2) (c : Fin 128), (Mv l q v g (ix5 0 0 0 s c) : EReal) = M (256 * (q.val + 2 * s.val) + 8 * u + 2 * v.val + g.val) (n0 + 128 * l.val + c.val)
  acts : ∀ q (i : Fin 8) (R : Fin 256), (X q (ix3 0 i R) : EReal) = A i.val (4096 * (q.val + 2 * (R.val % 2)) + (128 * u + R.val / 2))

variable {A : ℕ → ℕ → EReal} {B : ℕ → ℕ → BitVec 8} {S M : ℕ → ℕ → EReal} {u n0 : ℕ}
  {W : Fin 2 → Fin 4 → Vec Ideal S32x128 .i8} {Sv Mv : Fin 2 → Fin 2 → Fin 4 → Fin 2 → Vec Ideal S1x1x1x2x128 .bf16}
  {X : Fin 2 → Vec Ideal S1x8x256 .bf16}

theorem UnitLoads.column (h : UnitLoads A B S M u n0 W Sv Mv X) (q l : Fin 2) (R : Fin 256) (c : Fin 128) :
    (Hand.column q (W l) (Sv l q) (Mv l q) (ix2 R c) : EReal) = weight B S M (q.val + 2 * (R.val % 2)) (128 * u + R.val / 2) (n0 + 128 * l.val + c.val) := by
  rw [column_apply, h.bytes, h.scale, h.mins, weight]
  have e1 : 128 * u + 32 * (R.val / 64) + R.val % 64 / 2 = 128 * u + R.val / 2 := by omega
  have e2 : 256 * (q.val + 2 * (R.val % 2)) + 8 * u + 2 * (R.val / 64) + R.val % 64 / 32 = 256 * (q.val + 2 * (R.val % 2)) + (128 * u + R.val / 2) / 16 := by omega
  simp only [e1, e2]

theorem UnitLoads.part (h : UnitLoads A B S M u n0 W Sv Mv X) (q : Fin 2) (acc : FVec Ideal S8x256 .f32) (i : Fin 8) (c : Fin 256) :
    (Hand.part acc (X q) (Hand.column q (W 0) (Sv 0 q) (Mv 0 q)) (Hand.column q (W 1) (Sv 1 q) (Mv 1 q)) (ix2 i c) : EReal)
      = acc (ix2 i c) + ∑ k ∈ Finset.range 128, (term A B S M i.val (n0 + c.val) q.val (128 * u + k) + term A B S M i.val (n0 + c.val) (q.val + 2) (128 * u + k)) := by
  rw [part_apply]
  congr 1
  have hR : ∀ R : Fin 256, (X q (ix3 0 i R) * (if hl : c.val < 128 then Hand.column q (W 0) (Sv 0 q) (Mv 0 q) (ix2 R ⟨c.val, hl⟩) else Hand.column q (W 1) (Sv 1 q) (Mv 1 q) (ix2 R ⟨c.val - 128, by omega⟩)) : EReal)
      = (fun s k => term A B S M i.val (n0 + c.val) (q.val + 2 * s) (128 * u + k)) (R.val % 2) (R.val / 2) := by
    intro R
    show _ = term A B S M i.val (n0 + c.val) (q.val + 2 * (R.val % 2)) (128 * u + R.val / 2)
    rw [h.acts, term]
    congr 1
    split
    · rw [h.column, show n0 + 128 * (0 : Fin 2).val + c.val = n0 + c.val by simp]
    · rw [h.column]
      congr 1
      simp only [Fin.val_one]; omega
  rw [Finset.sum_congr rfl fun R _ => hR R, Fin.sum_univ_eq_sum_range (fun R => (fun s k => term A B S M i.val (n0 + c.val) (q.val + 2 * s) (128 * u + k)) (R % 2) (R / 2)) 256]
  exact sum_pairs (fun s k => term A B S M i.val (n0 + c.val) (q.val + 2 * s) (128 * u + k)) 128

/-- A unit adds its 128 rows' terms. -/
theorem UnitLoads.unit (h : UnitLoads A B S M u n0 W Sv Mv X) (acc : FVec Ideal S8x256 .f32) (i : Fin 8) (c : Fin 256)
    (hacc : (acc (ix2 i c) : EReal) = ∑ k ∈ Finset.range (128 * u), row4 A B S M i.val (n0 + c.val) k) :
    (Hand.unit acc W Sv Mv X (ix2 i c) : EReal) = ∑ k ∈ Finset.range (128 * (u + 1)), row4 A B S M i.val (n0 + c.val) k := by
  unfold Hand.unit
  rw [h.part 1, h.part 0, hacc, show 128 * (u + 1) = 128 * u + 128 by ring, Finset.sum_range_add, add_assoc, ← Finset.sum_add_distrib]
  congr 1
  refine Finset.sum_congr rfl fun k _ => ?_
  simp only [row4, Fin.val_zero, Fin.val_one, Nat.zero_add]
  show _ = term A B S M i.val (n0 + c.val) 0 (128 * u + k) + term A B S M i.val (n0 + c.val) 1 (128 * u + k) + term A B S M i.val (n0 + c.val) 2 (128 * u + k) + term A B S M i.val (n0 + c.val) 3 (128 * u + k)
  abel

end Cert.KernelIdeal.Hand
-- ==== Proof.Scratch.lean ====
/- What the loads of a trip read, in the operands and in the scratch buffers the trip fills, and the trip's loads collected. -/
module

public import proofs.«01_k».proof.Proof.TileValue
public import Idealize.ShloMosaic.Lib.Writes
public import Idealize.ShloMosaic.Lib.Pipeline.ValueKit

@[expose] public section

set_option maxRecDepth 16384

noncomputable section

namespace Cert.KernelIdeal.Hand

open Cert.KernelIdeal.Gen
open Idealize.ShloMosaic Cert.Spec
open Idealize.SL.Sem

/-- A load of a rank-two view through a rectangle, at an index. -/
theorem load2 {a b p q : ℕ} {sp : Space} {e : EltTy} [Inhabited (Elt Ideal e)] (v : Memref sig .tc sp ⟨2, ![a, b]⟩ e) (X : BufTy.Contents (Elt Ideal) v.view.ty)
    (off : Fin 2 → ℕ) (inb : ∀ r, off r + (⟨2, ![p, q]⟩ : Shape).size r ≤ (⟨2, ![a, b]⟩ : Shape).size r) (r c : ℕ) (hoff : off = ![r, c]) (i : Fin p) (j : Fin q) :
    View.readAt (Elt Ideal) v.view (Rect.unit (s := ⟨2, ![a, b]⟩) off (⟨2, ![p, q]⟩ : Shape).size inb).toLoadRect X (ix2 i j)
      = at2 (v.view.read (Elt Ideal) X) (r + i.val) (c + j.val) := by
  subst hoff
  rw [View.readAt_apply]
  exact at2_eq _ _ (Rect.idx_unit_val _ _ _ _ _) (Rect.idx_unit_val _ _ _ _ _)

/-- The same at rank three. -/
theorem load3 {a b c p q t : ℕ} {sp : Space} {e : EltTy} [Inhabited (Elt Ideal e)] (v : Memref sig .tc sp ⟨3, ![a, b, c]⟩ e) (X : BufTy.Contents (Elt Ideal) v.view.ty)
    (off : Fin 3 → ℕ) (inb : ∀ r, off r + (⟨3, ![p, q, t]⟩ : Shape).size r ≤ (⟨3, ![a, b, c]⟩ : Shape).size r) (x y z : ℕ) (hoff : off = ![x, y, z]) (i : Fin p) (j : Fin q) (k : Fin t) :
    View.readAt (Elt Ideal) v.view (Rect.unit (s := ⟨3, ![a, b, c]⟩) off (⟨3, ![p, q, t]⟩ : Shape).size inb).toLoadRect X (ix3 i j k)
      = at3 (v.view.read (Elt Ideal) X) (x + i.val) (y + j.val) (z + k.val) := by
  subst hoff
  rw [View.readAt_apply]
  exact at3_eq _ _ (Rect.idx_unit_val _ _ _ _ _) (Rect.idx_unit_val _ _ _ _ _) (Rect.idx_unit_val _ _ _ _ _)

/-- What a trip stores in the row scratch: rows of parity `g` of the block `lo`, alternately with those of the block `hi`. -/
def pairRows (g : Fin 2) (lo hi : Vec Ideal S16x128 .bf16) : Vec Ideal S1x1x1x16x128 .bf16 :=
  interleaveRows S1x1x1x16x128
    (shapeCast S1x1x1x8x128 (rowsOfParity g S8x128 lo bitcasts_S16x128_w16_S8x128_w32) shapeCasts_S8x128_S1x1x1x8x128)
    (shapeCast S1x1x1x8x128 (rowsOfParity g S8x128 hi bitcasts_S16x128_w16_S8x128_w32) shapeCasts_S8x128_S1x1x1x8x128)
    bitcasts_S1x1x1x16x128_w16_S1x1x1x8x128_w32

theorem pairRows_apply (g : Fin 2) (lo hi : Vec Ideal S16x128 .bf16) (j : S1x1x1x16x128.Idx) :
    pairRows g lo hi j = (if (j 3).val % 2 = 0 then lo else hi) (ix2 ⟨2 * ((j 3).val / 2) + g.val, by have := (j 3).isLt; have h : S1x1x1x16x128.size 3 = 16 := rfl; omega⟩ (j 4)) := by
  pointwise [pairRows]
  split <;> rfl

/-- The contents a row scratch holds where it has been written: the scales (or minima) `s` by lane tile, pair, group parity, row, lane. -/
def pairs (s : ℕ → ℕ → EReal) (y : S4x2x2x256x128.Idx) : EReal :=
  s (256 * ((y 1).val + 2 * ((y 3).val % 2)) + 2 * ((y 3).val / 2) + (y 2).val) (128 * (y 0).val + (y 4).val)

/-- A trip's store agrees with `pairs`. -/
theorem pairs_store (a : Memref sig .tc .vmem S1024x512 .bf16) (X : BufTy.Contents (Elt Ideal) a.view.ty) (g : Fin 2) (lt q k : ℕ)
    (off : Fin 5 → ℕ) (hoff : off = ![lt, q, g.val, 16 * k, 0]) (inb : ∀ r, off r + S1x1x1x16x128.size r ≤ S4x2x2x256x128.size r)
    (offA offB : Fin 2 → ℕ) (hA : offA = ![256 * q + 16 * k, 128 * lt]) (hB : offB = ![256 * (q + 2) + 16 * k, 128 * lt])
    (iA : ∀ r, offA r + S16x128.size r ≤ S1024x512.size r) (iB : ∀ r, offB r + S16x128.size r ≤ S1024x512.size r)
    (x : (Rect.unit (s := S4x2x2x256x128) off S1x1x1x16x128.size inb).shape.Idx) :
    pairRows g (View.readAt (Elt Ideal) a.view (Rect.unit (s := S1024x512) offA S16x128.size iA).toLoadRect X)
        (View.readAt (Elt Ideal) a.view (Rect.unit (s := S1024x512) offB S16x128.size iB).toLoadRect X) x
      = pairs (at2 (a.view.read (Elt Ideal) X)) ((Rect.unit (s := S4x2x2x256x128) off S1x1x1x16x128.size inb).emb x) := by
  subst hoff
  have hy : ∀ r, (((Rect.unit (s := S4x2x2x256x128) ![lt, q, g.val, 16 * k, 0] S1x1x1x16x128.size inb).emb x) r).val = (![lt, q, g.val, 16 * k, 0] : Fin 5 → ℕ) r + (x r).val :=
    fun r => Rect.idx_unit_val _ _ inb x r
  have h0 : (x 0).val = 0 := Nat.lt_one_iff.mp (x 0).isLt
  have h1 : (x 1).val = 0 := Nat.lt_one_iff.mp (x 1).isLt
  have h2 : (x 2).val = 0 := Nat.lt_one_iff.mp (x 2).isLt
  have y0 := hy 0; have y1 := hy 1; have y2 := hy 2; have y3 := hy 3; have y4 := hy 4
  replace y0 : _ = lt + (x 0).val := y0
  replace y1 : _ = q + (x 1).val := y1
  replace y2 : _ = g.val + (x 2).val := y2
  replace y3 : _ = 16 * k + (x 3).val := y3
  replace y4 : _ = 0 + (x 4).val := y4
  unfold pairs
  rw [y0, y1, y2, y3, y4, h0, h1, h2, pairRows_apply]
  rcases Nat.mod_two_eq_zero_or_one (x 3).val with hp | hp
  · rw [if_pos hp]
    refine (load2 a X offA iA _ _ hA _ _).trans ?_
    congr 1
    · simp only; omega
    · omega
  · rw [if_neg (by omega)]
    refine (load2 a X offB iB _ _ hB _ _).trans ?_
    congr 1
    · simp only; omega
    · omega

/-- Two rows read back from stores that agree with `pairs`. -/
theorem pairs_load (a : Memref sig .tc .vmem S4x2x2x256x128 .bf16) (L : List (View.Piece (Elt Ideal) S4x2x2x256x128 .bf16)) (s : ℕ → ℕ → EReal)
    (hL : ∀ p ∈ L, ∀ x : p.1.shape.Idx, p.2 x = pairs s (p.1.emb x)) (lt q g k r : ℕ)
    (off' : Fin 5 → ℕ) (hoff' : off' = ![lt, q, g, 16 * k, 0]) (inb' : ∀ r, off' r + S1x1x1x16x128.size r ≤ S4x2x2x256x128.size r)
    (hm : ∃ p ∈ L, p.1 = Rect.unit (s := S4x2x2x256x128) off' S1x1x1x16x128.size inb')
    (off : Fin 5 → ℕ) (hoff : off = ![lt, q, g, 16 * k + 2 * r, 0]) (hr : r < 8) (inb : ∀ r, off r + S1x1x1x2x128.size r ≤ S4x2x2x256x128.size r)
    (t : Fin 2) (c : Fin 128) :
    a.view.readCov L (Rect.unit (s := S4x2x2x256x128) off S1x1x1x2x128.size inb).toLoadRect (ix5 0 0 0 t c)
      = s (256 * (q + 2 * t.val) + 16 * k + 2 * r + g) (128 * lt + c.val) := by
  subst hoff hoff'
  have hy : ∀ b, (((Rect.unit (s := S4x2x2x256x128) ![lt, q, g, 16 * k + 2 * r, 0] S1x1x1x2x128.size inb).toLoadRect.idx (ix5 0 0 0 t c)) b).val = (![lt, q, g, 16 * k + 2 * r, 0] : Fin 5 → ℕ) b + ((ix5 0 0 0 t c : S1x1x1x2x128.Idx) b).val :=
    fun b => Rect.idx_unit_val _ _ inb (ix5 0 0 0 t c) b
  unfold View.readCov
  rw [View.readAt_apply, View.read_writes_apply_of_pieces _ _ (pairs s) L hL]
  · have y0 := hy 0; have y1 := hy 1; have y2 := hy 2; have y3 := hy 3; have y4 := hy 4
    replace y0 : _ = lt + 0 := y0
    replace y1 : _ = q + 0 := y1
    replace y2 : _ = g + 0 := y2
    replace y3 : _ = 16 * k + 2 * r + t.val := y3
    replace y4 : _ = 0 + c.val := y4
    unfold pairs
    rw [y0, y1, y2, y3, y4]
    congr 1
    · omega
    · omega
  · obtain ⟨p, hp, e⟩ := hm
    refine ⟨p, hp, ?_⟩
    rw [e, Rect.mem_set_unit]
    intro b
    rw [hy b]
    have := t.isLt; have := c.isLt
    match b with
    | ⟨0, _⟩ => exact ⟨le_rfl, Nat.lt_succ_self _⟩
    | ⟨1, _⟩ => exact ⟨le_rfl, Nat.lt_succ_self _⟩
    | ⟨2, _⟩ => exact ⟨le_rfl, Nat.lt_succ_self _⟩
    | ⟨3, _⟩ => exact ⟨show 16 * k ≤ 16 * k + 2 * r + t.val by omega, show 16 * k + 2 * r + t.val < 16 * k + 16 by omega⟩
    | ⟨4, _⟩ => exact ⟨show 0 ≤ 0 + c.val by omega, show 0 + c.val < 0 + 128 by omega⟩

/-! ## Loop 1 -/

theorem stores1_arg7 (a : Memref sig .tc .vmem S1024x512 .bf16) (X : BufTy.Contents (Elt Ideal) a.view.ty) (k : Fin k0_t1_loop.trips) :
    trip_k0_t1.sl.HW_arg7_8 a X k =
      [⟨Rect.unit (s := S4x2x2x256x128) (k0_off10 k) S1x1x1x16x128.size (k0_off10_inb k), pairRows 1 (View.readAt (Elt Ideal) a.view (Rect.unit (s := S1024x512) (k0_off4 k (BitVec.ofNat 32 (256 * (1 : Fin 4).val))) S16x128.size (k0_off4_inb k 1)).toLoadRect X) (View.readAt (Elt Ideal) a.view (Rect.unit (s := S1024x512) (k0_off4 k (BitVec.ofNat 32 (256 * (3 : Fin 4).val))) S16x128.size (k0_off4_inb k 3)).toLoadRect X)⟩,
       ⟨Rect.unit (s := S4x2x2x256x128) (k0_off9 k) S1x1x1x16x128.size (k0_off9_inb k), pairRows 0 (View.readAt (Elt Ideal) a.view (Rect.unit (s := S1024x512) (k0_off4 k (BitVec.ofNat 32 (256 * (1 : Fin 4).val))) S16x128.size (k0_off4_inb k 1)).toLoadRect X) (View.readAt (Elt Ideal) a.view (Rect.unit (s := S1024x512) (k0_off4 k (BitVec.ofNat 32 (256 * (3 : Fin 4).val))) S16x128.size (k0_off4_inb k 3)).toLoadRect X)⟩,
       ⟨Rect.unit (s := S4x2x2x256x128) (k0_off8 k) S1x1x1x16x128.size (k0_off8_inb k), pairRows 1 (View.readAt (Elt Ideal) a.view (Rect.unit (s := S1024x512) (k0_off1 k (BitVec.ofNat 32 (256 * (1 : Fin 4).val))) S16x128.size (k0_off1_inb k 1)).toLoadRect X) (View.readAt (Elt Ideal) a.view (Rect.unit (s := S1024x512) (k0_off1 k (BitVec.ofNat 32 (256 * (3 : Fin 4).val))) S16x128.size (k0_off1_inb k 3)).toLoadRect X)⟩,
       ⟨Rect.unit (s := S4x2x2x256x128) (k0_off7 k) S1x1x1x16x128.size (k0_off7_inb k), pairRows 0 (View.readAt (Elt Ideal) a.view (Rect.unit (s := S1024x512) (k0_off1 k (BitVec.ofNat 32 (256 * (1 : Fin 4).val))) S16x128.size (k0_off1_inb k 1)).toLoadRect X) (View.readAt (Elt Ideal) a.view (Rect.unit (s := S1024x512) (k0_off1 k (BitVec.ofNat 32 (256 * (3 : Fin 4).val))) S16x128.size (k0_off1_inb k 3)).toLoadRect X)⟩,
       ⟨Rect.unit (s := S4x2x2x256x128) (k0_off6 k) S1x1x1x16x128.size (k0_off6_inb k), pairRows 1 (View.readAt (Elt Ideal) a.view (Rect.unit (s := S1024x512) (k0_off4 k (BitVec.ofNat 32 (256 * (0 : Fin 4).val))) S16x128.size (k0_off4_inb k 0)).toLoadRect X) (View.readAt (Elt Ideal) a.view (Rect.unit (s := S1024x512) (k0_off4 k (BitVec.ofNat 32 (256 * (2 : Fin 4).val))) S16x128.size (k0_off4_inb k 2)).toLoadRect X)⟩,
       ⟨Rect.unit (s := S4x2x2x256x128) (k0_off5 k) S1x1x1x16x128.size (k0_off5_inb k), pairRows 0 (View.readAt (Elt Ideal) a.view (Rect.unit (s := S1024x512) (k0_off4 k (BitVec.ofNat 32 (256 * (0 : Fin 4).val))) S16x128.size (k0_off4_inb k 0)).toLoadRect X) (View.readAt (Elt Ideal) a.view (Rect.unit (s := S1024x512) (k0_off4 k (BitVec.ofNat 32 (256 * (2 : Fin 4).val))) S16x128.size (k0_off4_inb k 2)).toLoadRect X)⟩,
       ⟨Rect.unit (s := S4x2x2x256x128) (k0_off3 k) S1x1x1x16x128.size (k0_off3_inb k), pairRows 1 (View.readAt (Elt Ideal) a.view (Rect.unit (s := S1024x512) (k0_off1 k (BitVec.ofNat 32 (256 * (0 : Fin 4).val))) S16x128.size (k0_off1_inb k 0)).toLoadRect X) (View.readAt (Elt Ideal) a.view (Rect.unit (s := S1024x512) (k0_off1 k (BitVec.ofNat 32 (256 * (2 : Fin 4).val))) S16x128.size (k0_off1_inb k 2)).toLoadRect X)⟩,
       ⟨Rect.unit (s := S4x2x2x256x128) (k0_off2 k) S1x1x1x16x128.size (k0_off2_inb k), pairRows 0 (View.readAt (Elt Ideal) a.view (Rect.unit (s := S1024x512) (k0_off1 k (BitVec.ofNat 32 (256 * (0 : Fin 4).val))) S16x128.size (k0_off1_inb k 0)).toLoadRect X) (View.readAt (Elt Ideal) a.view (Rect.unit (s := S1024x512) (k0_off1 k (BitVec.ofNat 32 (256 * (2 : Fin 4).val))) S16x128.size (k0_off1_inb k 2)).toLoadRect X)⟩] := rfl

theorem stores1_arg7_agree (a : Memref sig .tc .vmem S1024x512 .bf16) (X : BufTy.Contents (Elt Ideal) a.view.ty) (k : Fin k0_t1_loop.trips) :
    ∀ p ∈ trip_k0_t1.sl.HW_arg7_8 a X k, ∀ x : p.1.shape.Idx, p.2 x = pairs (at2 (a.view.read (Elt Ideal) X)) (p.1.emb x) := by
  rw [stores1_arg7]
  simp only [List.forall_mem_cons, List.not_mem_nil, false_imp_iff, implies_true, and_true]
  refine ⟨fun x => pairs_store a X 1 1 1 k.val _ (k0_off10_eq k) _ _ _ (k0_off4_eq k 1) (k0_off4_eq k 3) _ _ x,
    fun x => pairs_store a X 0 1 1 k.val _ (k0_off9_eq k) _ _ _ (k0_off4_eq k 1) (k0_off4_eq k 3) _ _ x,
    fun x => pairs_store a X 1 0 1 k.val _ (k0_off8_eq k) _ _ _ (k0_off1_eq k 1) (k0_off1_eq k 3) _ _ x,
    fun x => pairs_store a X 0 0 1 k.val _ (k0_off7_eq k) _ _ _ (k0_off1_eq k 1) (k0_off1_eq k 3) _ _ x,
    fun x => pairs_store a X 1 1 0 k.val _ (k0_off6_eq k) _ _ _ (k0_off4_eq k 0) (k0_off4_eq k 2) _ _ x,
    fun x => pairs_store a X 0 1 0 k.val _ (k0_off5_eq k) _ _ _ (k0_off4_eq k 0) (k0_off4_eq k 2) _ _ x,
    fun x => pairs_store a X 1 0 0 k.val _ (k0_off3_eq k) _ _ _ (k0_off1_eq k 0) (k0_off1_eq k 2) _ _ x,
    fun x => pairs_store a X 0 0 0 k.val _ (k0_off2_eq k) _ _ _ (k0_off1_eq k 0) (k0_off1_eq k 2) _ _ x⟩

theorem rows1_arg7 (a : Memref sig .tc .vmem S1024x512 .bf16) (X : BufTy.Contents (Elt Ideal) a.view.ty) (b : Memref sig .tc .vmem S4x2x2x256x128 .bf16) (k : Fin k0_t1_loop.trips)
    (h l q : Fin 2) (v : Fin 4) (g t : Fin 2) (c : Fin 128) :
    (rows1 b (trip_k0_t1.sl.HW_arg7_8 a X k) k h l q v g (ix5 0 0 0 t c) : EReal)
      = at2 (a.view.read (Elt Ideal) X) (256 * (q.val + 2 * t.val) + 16 * k.val + 2 * (4 * h.val + v.val) + g.val) (128 * (0 + l.val) + c.val) := by
  have hr : 4 * h.val + v.val < 8 := by omega
  match l, q, g with
  | 0, 0, 0 => exact pairs_load b _ _ (stores1_arg7_agree a X k) 0 0 0 k.val (4 * h.val + v.val) _ (k0_off2_eq k) (k0_off2_inb k) ⟨_, (stores1_arg7 a X k).symm ▸ List.mem_cons_of_mem _ (List.mem_cons_of_mem _ (List.mem_cons_of_mem _ (List.mem_cons_of_mem _ (List.mem_cons_of_mem _ (List.mem_cons_of_mem _ (List.mem_cons_of_mem _ (List.mem_cons_self))))))), rfl⟩ _ ((k0_off12_eq k h v).trans (by rw [show 16 * k.val + 8 * h.val + 2 * v.val = 16 * k.val + 2 * (4 * h.val + v.val) by omega])) hr _ t c
  | 0, 0, 1 => exact pairs_load b _ _ (stores1_arg7_agree a X k) 0 0 1 k.val (4 * h.val + v.val) _ (k0_off3_eq k) (k0_off3_inb k) ⟨_, (stores1_arg7 a X k).symm ▸ List.mem_cons_of_mem _ (List.mem_cons_of_mem _ (List.mem_cons_of_mem _ (List.mem_cons_of_mem _ (List.mem_cons_of_mem _ (List.mem_cons_of_mem _ (List.mem_cons_self)))))), rfl⟩ _ ((k0_off13_eq k h v).trans (by rw [show 16 * k.val + 8 * h.val + 2 * v.val = 16 * k.val + 2 * (4 * h.val + v.val) by omega])) hr _ t c
  | 0, 1, 0 => exact pairs_load b _ _ (stores1_arg7_agree a X k) 0 1 0 k.val (4 * h.val + v.val) _ (k0_off7_eq k) (k0_off7_inb k) ⟨_, (stores1_arg7 a X k).symm ▸ List.mem_cons_of_mem _ (List.mem_cons_of_mem _ (List.mem_cons_of_mem _ (List.mem_cons_self))), rfl⟩ _ ((k0_off14_eq k h v).trans (by rw [show 16 * k.val + 8 * h.val + 2 * v.val = 16 * k.val + 2 * (4 * h.val + v.val) by omega])) hr _ t c
  | 0, 1, 1 => exact pairs_load b _ _ (stores1_arg7_agree a X k) 0 1 1 k.val (4 * h.val + v.val) _ (k0_off8_eq k) (k0_off8_inb k) ⟨_, (stores1_arg7 a X k).symm ▸ List.mem_cons_of_mem _ (List.mem_cons_of_mem _ (List.mem_cons_self)), rfl⟩ _ ((k0_off15_eq k h v).trans (by rw [show 16 * k.val + 8 * h.val + 2 * v.val = 16 * k.val + 2 * (4 * h.val + v.val) by omega])) hr _ t c
  | 1, 0, 0 => exact pairs_load b _ _ (stores1_arg7_agree a X k) 1 0 0 k.val (4 * h.val + v.val) _ (k0_off5_eq k) (k0_off5_inb k) ⟨_, (stores1_arg7 a X k).symm ▸ List.mem_cons_of_mem _ (List.mem_cons_of_mem _ (List.mem_cons_of_mem _ (List.mem_cons_of_mem _ (List.mem_cons_of_mem _ (List.mem_cons_self))))), rfl⟩ _ ((k0_off17_eq k h v).trans (by rw [show 16 * k.val + 8 * h.val + 2 * v.val = 16 * k.val + 2 * (4 * h.val + v.val) by omega])) hr _ t c
  | 1, 0, 1 => exact pairs_load b _ _ (stores1_arg7_agree a X k) 1 0 1 k.val (4 * h.val + v.val) _ (k0_off6_eq k) (k0_off6_inb k) ⟨_, (stores1_arg7 a X k).symm ▸ List.mem_cons_of_mem _ (List.mem_cons_of_mem _ (List.mem_cons_of_mem _ (List.mem_cons_of_mem _ (List.mem_cons_self)))), rfl⟩ _ ((k0_off18_eq k h v).trans (by rw [show 16 * k.val + 8 * h.val + 2 * v.val = 16 * k.val + 2 * (4 * h.val + v.val) by omega])) hr _ t c
  | 1, 1, 0 => exact pairs_load b _ _ (stores1_arg7_agree a X k) 1 1 0 k.val (4 * h.val + v.val) _ (k0_off9_eq k) (k0_off9_inb k) ⟨_, (stores1_arg7 a X k).symm ▸ List.mem_cons_of_mem _ (List.mem_cons_self), rfl⟩ _ ((k0_off19_eq k h v).trans (by rw [show 16 * k.val + 8 * h.val + 2 * v.val = 16 * k.val + 2 * (4 * h.val + v.val) by omega])) hr _ t c
  | 1, 1, 1 => exact pairs_load b _ _ (stores1_arg7_agree a X k) 1 1 1 k.val (4 * h.val + v.val) _ (k0_off10_eq k) (k0_off10_inb k) ⟨_, (stores1_arg7 a X k).symm ▸ List.mem_cons_self, rfl⟩ _ ((k0_off20_eq k h v).trans (by rw [show 16 * k.val + 8 * h.val + 2 * v.val = 16 * k.val + 2 * (4 * h.val + v.val) by omega])) hr _ t c

theorem stores1_arg8 (a : Memref sig .tc .vmem S1024x512 .bf16) (X : BufTy.Contents (Elt Ideal) a.view.ty) (k : Fin k0_t1_loop.trips) :
    trip_k0_t1.sl.HW_arg8_8 a X k =
      [⟨Rect.unit (s := S4x2x2x256x128) (k0_off10 k) S1x1x1x16x128.size (k0_off10_inb k), pairRows 1 (View.readAt (Elt Ideal) a.view (Rect.unit (s := S1024x512) (k0_off4 k (BitVec.ofNat 32 (256 * (1 : Fin 4).val))) S16x128.size (k0_off4_inb k 1)).toLoadRect X) (View.readAt (Elt Ideal) a.view (Rect.unit (s := S1024x512) (k0_off4 k (BitVec.ofNat 32 (256 * (3 : Fin 4).val))) S16x128.size (k0_off4_inb k 3)).toLoadRect X)⟩,
       ⟨Rect.unit (s := S4x2x2x256x128) (k0_off9 k) S1x1x1x16x128.size (k0_off9_inb k), pairRows 0 (View.readAt (Elt Ideal) a.view (Rect.unit (s := S1024x512) (k0_off4 k (BitVec.ofNat 32 (256 * (1 : Fin 4).val))) S16x128.size (k0_off4_inb k 1)).toLoadRect X) (View.readAt (Elt Ideal) a.view (Rect.unit (s := S1024x512) (k0_off4 k (BitVec.ofNat 32 (256 * (3 : Fin 4).val))) S16x128.size (k0_off4_inb k 3)).toLoadRect X)⟩,
       ⟨Rect.unit (s := S4x2x2x256x128) (k0_off8 k) S1x1x1x16x128.size (k0_off8_inb k), pairRows 1 (View.readAt (Elt Ideal) a.view (Rect.unit (s := S1024x512) (k0_off1 k (BitVec.ofNat 32 (256 * (1 : Fin 4).val))) S16x128.size (k0_off1_inb k 1)).toLoadRect X) (View.readAt (Elt Ideal) a.view (Rect.unit (s := S1024x512) (k0_off1 k (BitVec.ofNat 32 (256 * (3 : Fin 4).val))) S16x128.size (k0_off1_inb k 3)).toLoadRect X)⟩,
       ⟨Rect.unit (s := S4x2x2x256x128) (k0_off7 k) S1x1x1x16x128.size (k0_off7_inb k), pairRows 0 (View.readAt (Elt Ideal) a.view (Rect.unit (s := S1024x512) (k0_off1 k (BitVec.ofNat 32 (256 * (1 : Fin 4).val))) S16x128.size (k0_off1_inb k 1)).toLoadRect X) (View.readAt (Elt Ideal) a.view (Rect.unit (s := S1024x512) (k0_off1 k (BitVec.ofNat 32 (256 * (3 : Fin 4).val))) S16x128.size (k0_off1_inb k 3)).toLoadRect X)⟩,
       ⟨Rect.unit (s := S4x2x2x256x128) (k0_off6 k) S1x1x1x16x128.size (k0_off6_inb k), pairRows 1 (View.readAt (Elt Ideal) a.view (Rect.unit (s := S1024x512) (k0_off4 k (BitVec.ofNat 32 (256 * (0 : Fin 4).val))) S16x128.size (k0_off4_inb k 0)).toLoadRect X) (View.readAt (Elt Ideal) a.view (Rect.unit (s := S1024x512) (k0_off4 k (BitVec.ofNat 32 (256 * (2 : Fin 4).val))) S16x128.size (k0_off4_inb k 2)).toLoadRect X)⟩,
       ⟨Rect.unit (s := S4x2x2x256x128) (k0_off5 k) S1x1x1x16x128.size (k0_off5_inb k), pairRows 0 (View.readAt (Elt Ideal) a.view (Rect.unit (s := S1024x512) (k0_off4 k (BitVec.ofNat 32 (256 * (0 : Fin 4).val))) S16x128.size (k0_off4_inb k 0)).toLoadRect X) (View.readAt (Elt Ideal) a.view (Rect.unit (s := S1024x512) (k0_off4 k (BitVec.ofNat 32 (256 * (2 : Fin 4).val))) S16x128.size (k0_off4_inb k 2)).toLoadRect X)⟩,
       ⟨Rect.unit (s := S4x2x2x256x128) (k0_off3 k) S1x1x1x16x128.size (k0_off3_inb k), pairRows 1 (View.readAt (Elt Ideal) a.view (Rect.unit (s := S1024x512) (k0_off1 k (BitVec.ofNat 32 (256 * (0 : Fin 4).val))) S16x128.size (k0_off1_inb k 0)).toLoadRect X) (View.readAt (Elt Ideal) a.view (Rect.unit (s := S1024x512) (k0_off1 k (BitVec.ofNat 32 (256 * (2 : Fin 4).val))) S16x128.size (k0_off1_inb k 2)).toLoadRect X)⟩,
       ⟨Rect.unit (s := S4x2x2x256x128) (k0_off2 k) S1x1x1x16x128.size (k0_off2_inb k), pairRows 0 (View.readAt (Elt Ideal) a.view (Rect.unit (s := S1024x512) (k0_off1 k (BitVec.ofNat 32 (256 * (0 : Fin 4).val))) S16x128.size (k0_off1_inb k 0)).toLoadRect X) (View.readAt (Elt Ideal) a.view (Rect.unit (s := S1024x512) (k0_off1 k (BitVec.ofNat 32 (256 * (2 : Fin 4).val))) S16x128.size (k0_off1_inb k 2)).toLoadRect X)⟩] := rfl

theorem stores1_arg8_agree (a : Memref sig .tc .vmem S1024x512 .bf16) (X : BufTy.Contents (Elt Ideal) a.view.ty) (k : Fin k0_t1_loop.trips) :
    ∀ p ∈ trip_k0_t1.sl.HW_arg8_8 a X k, ∀ x : p.1.shape.Idx, p.2 x = pairs (at2 (a.view.read (Elt Ideal) X)) (p.1.emb x) := by
  rw [stores1_arg8]
  simp only [List.forall_mem_cons, List.not_mem_nil, false_imp_iff, implies_true, and_true]
  refine ⟨fun x => pairs_store a X 1 1 1 k.val _ (k0_off10_eq k) _ _ _ (k0_off4_eq k 1) (k0_off4_eq k 3) _ _ x,
    fun x => pairs_store a X 0 1 1 k.val _ (k0_off9_eq k) _ _ _ (k0_off4_eq k 1) (k0_off4_eq k 3) _ _ x,
    fun x => pairs_store a X 1 0 1 k.val _ (k0_off8_eq k) _ _ _ (k0_off1_eq k 1) (k0_off1_eq k 3) _ _ x,
    fun x => pairs_store a X 0 0 1 k.val _ (k0_off7_eq k) _ _ _ (k0_off1_eq k 1) (k0_off1_eq k 3) _ _ x,
    fun x => pairs_store a X 1 1 0 k.val _ (k0_off6_eq k) _ _ _ (k0_off4_eq k 0) (k0_off4_eq k 2) _ _ x,
    fun x => pairs_store a X 0 1 0 k.val _ (k0_off5_eq k) _ _ _ (k0_off4_eq k 0) (k0_off4_eq k 2) _ _ x,
    fun x => pairs_store a X 1 0 0 k.val _ (k0_off3_eq k) _ _ _ (k0_off1_eq k 0) (k0_off1_eq k 2) _ _ x,
    fun x => pairs_store a X 0 0 0 k.val _ (k0_off2_eq k) _ _ _ (k0_off1_eq k 0) (k0_off1_eq k 2) _ _ x⟩

theorem rows1_arg8 (a : Memref sig .tc .vmem S1024x512 .bf16) (X : BufTy.Contents (Elt Ideal) a.view.ty) (b : Memref sig .tc .vmem S4x2x2x256x128 .bf16) (k : Fin k0_t1_loop.trips)
    (h l q : Fin 2) (v : Fin 4) (g t : Fin 2) (c : Fin 128) :
    (rows1 b (trip_k0_t1.sl.HW_arg8_8 a X k) k h l q v g (ix5 0 0 0 t c) : EReal)
      = at2 (a.view.read (Elt Ideal) X) (256 * (q.val + 2 * t.val) + 16 * k.val + 2 * (4 * h.val + v.val) + g.val) (128 * (0 + l.val) + c.val) := by
  have hr : 4 * h.val + v.val < 8 := by omega
  match l, q, g with
  | 0, 0, 0 => exact pairs_load b _ _ (stores1_arg8_agree a X k) 0 0 0 k.val (4 * h.val + v.val) _ (k0_off2_eq k) (k0_off2_inb k) ⟨_, (stores1_arg8 a X k).symm ▸ List.mem_cons_of_mem _ (List.mem_cons_of_mem _ (List.mem_cons_of_mem _ (List.mem_cons_of_mem _ (List.mem_cons_of_mem _ (List.mem_cons_of_mem _ (List.mem_cons_of_mem _ (List.mem_cons_self))))))), rfl⟩ _ ((k0_off12_eq k h v).trans (by rw [show 16 * k.val + 8 * h.val + 2 * v.val = 16 * k.val + 2 * (4 * h.val + v.val) by omega])) hr _ t c
  | 0, 0, 1 => exact pairs_load b _ _ (stores1_arg8_agree a X k) 0 0 1 k.val (4 * h.val + v.val) _ (k0_off3_eq k) (k0_off3_inb k) ⟨_, (stores1_arg8 a X k).symm ▸ List.mem_cons_of_mem _ (List.mem_cons_of_mem _ (List.mem_cons_of_mem _ (List.mem_cons_of_mem _ (List.mem_cons_of_mem _ (List.mem_cons_of_mem _ (List.mem_cons_self)))))), rfl⟩ _ ((k0_off13_eq k h v).trans (by rw [show 16 * k.val + 8 * h.val + 2 * v.val = 16 * k.val + 2 * (4 * h.val + v.val) by omega])) hr _ t c
  | 0, 1, 0 => exact pairs_load b _ _ (stores1_arg8_agree a X k) 0 1 0 k.val (4 * h.val + v.val) _ (k0_off7_eq k) (k0_off7_inb k) ⟨_, (stores1_arg8 a X k).symm ▸ List.mem_cons_of_mem _ (List.mem_cons_of_mem _ (List.mem_cons_of_mem _ (List.mem_cons_self))), rfl⟩ _ ((k0_off14_eq k h v).trans (by rw [show 16 * k.val + 8 * h.val + 2 * v.val = 16 * k.val + 2 * (4 * h.val + v.val) by omega])) hr _ t c
  | 0, 1, 1 => exact pairs_load b _ _ (stores1_arg8_agree a X k) 0 1 1 k.val (4 * h.val + v.val) _ (k0_off8_eq k) (k0_off8_inb k) ⟨_, (stores1_arg8 a X k).symm ▸ List.mem_cons_of_mem _ (List.mem_cons_of_mem _ (List.mem_cons_self)), rfl⟩ _ ((k0_off15_eq k h v).trans (by rw [show 16 * k.val + 8 * h.val + 2 * v.val = 16 * k.val + 2 * (4 * h.val + v.val) by omega])) hr _ t c
  | 1, 0, 0 => exact pairs_load b _ _ (stores1_arg8_agree a X k) 1 0 0 k.val (4 * h.val + v.val) _ (k0_off5_eq k) (k0_off5_inb k) ⟨_, (stores1_arg8 a X k).symm ▸ List.mem_cons_of_mem _ (List.mem_cons_of_mem _ (List.mem_cons_of_mem _ (List.mem_cons_of_mem _ (List.mem_cons_of_mem _ (List.mem_cons_self))))), rfl⟩ _ ((k0_off17_eq k h v).trans (by rw [show 16 * k.val + 8 * h.val + 2 * v.val = 16 * k.val + 2 * (4 * h.val + v.val) by omega])) hr _ t c
  | 1, 0, 1 => exact pairs_load b _ _ (stores1_arg8_agree a X k) 1 0 1 k.val (4 * h.val + v.val) _ (k0_off6_eq k) (k0_off6_inb k) ⟨_, (stores1_arg8 a X k).symm ▸ List.mem_cons_of_mem _ (List.mem_cons_of_mem _ (List.mem_cons_of_mem _ (List.mem_cons_of_mem _ (List.mem_cons_self)))), rfl⟩ _ ((k0_off18_eq k h v).trans (by rw [show 16 * k.val + 8 * h.val + 2 * v.val = 16 * k.val + 2 * (4 * h.val + v.val) by omega])) hr _ t c
  | 1, 1, 0 => exact pairs_load b _ _ (stores1_arg8_agree a X k) 1 1 0 k.val (4 * h.val + v.val) _ (k0_off9_eq k) (k0_off9_inb k) ⟨_, (stores1_arg8 a X k).symm ▸ List.mem_cons_of_mem _ (List.mem_cons_self), rfl⟩ _ ((k0_off19_eq k h v).trans (by rw [show 16 * k.val + 8 * h.val + 2 * v.val = 16 * k.val + 2 * (4 * h.val + v.val) by omega])) hr _ t c
  | 1, 1, 1 => exact pairs_load b _ _ (stores1_arg8_agree a X k) 1 1 1 k.val (4 * h.val + v.val) _ (k0_off10_eq k) (k0_off10_inb k) ⟨_, (stores1_arg8 a X k).symm ▸ List.mem_cons_self, rfl⟩ _ ((k0_off20_eq k h v).trans (by rw [show 16 * k.val + 8 * h.val + 2 * v.val = 16 * k.val + 2 * (4 * h.val + v.val) by omega])) hr _ t c

theorem word1_apply (a : Memref sig .tc .vmem S4096x512 .i8) (X : BufTy.Contents (Elt Ideal) a.view.ty) (k : Fin k0_t1_loop.trips) (h l : Fin 2) (v : Fin 4) (i : Fin 32) (c : Fin 128) :
    word1 a X k h l v (ix2 i c) = at2 (a.view.read (Elt Ideal) X) (256 * k.val + 128 * h.val + 32 * v.val + i.val) (128 * (0 + l.val) + c.val) := by
  match l with
  | 0 => exact load2 a X _ _ _ _ (k0_off11_eq k h v) i c
  | 1 => exact load2 a X _ _ _ _ (k0_off16_eq k h v) i c

theorem acts1_apply (a : Memref sig .tc .vmem S2x8x8192 .bf16) (X : BufTy.Contents (Elt Ideal) a.view.ty) (k : Fin k0_t1_loop.trips) (h q : Fin 2) (i : Fin 8) (R : Fin 256) :
    (acts1 a X k h q (ix3 0 i R) : EReal) = at3 (a.view.read (Elt Ideal) X) q.val i.val (512 * k.val + 256 * h.val + R.val) := by
  match q with
  | 0 => exact (load3 a X _ _ _ _ _ (k0_off21_eq k h) 0 i R).trans (by simp only [Fin.val_zero, Nat.add_zero, Nat.zero_add])
  | 1 => exact (load3 a X _ _ _ _ _ (k0_off22_eq k h) 0 i R).trans (by simp only [Fin.val_zero, Fin.val_one, Nat.add_zero, Nat.zero_add])

/-- The loads of unit `2 k + h`. -/
theorem loads1 (a2 : Memref sig .tc .vmem S4096x512 .i8) (a3 a4 : Memref sig .tc .vmem S1024x512 .bf16) (a6 : Memref sig .tc .vmem S2x8x8192 .bf16)
    (a7 a8 : Memref sig .tc .vmem S4x2x2x256x128 .bf16) (X2 : BufTy.Contents (Elt Ideal) a2.view.ty) (X3 : BufTy.Contents (Elt Ideal) a3.view.ty)
    (X4 : BufTy.Contents (Elt Ideal) a4.view.ty) (X6 : BufTy.Contents (Elt Ideal) a6.view.ty) (A : ℕ → ℕ → EReal)
    (hA : ∀ q i p, q < 2 → i < 8 → p < 8192 → at3 (a6.view.read (Elt Ideal) X6) q i p = A i (4096 * (q + 2 * (p % 2)) + p / 2)) (k : Fin k0_t1_loop.trips) (hk : k.val < 16) (h : Fin 2) :
    UnitLoads A (at2 (a2.view.read (Elt Ideal) X2)) (at2 (a3.view.read (Elt Ideal) X3)) (at2 (a4.view.read (Elt Ideal) X4)) (2 * k.val + h.val) 0
      (word1 a2 X2 k h) (rows1 a7 (trip_k0_t1.sl.HW_arg7_8 a3 X3 k) k h) (rows1 a8 (trip_k0_t1.sl.HW_arg8_8 a4 X4 k) k h) (acts1 a6 X6 k h) where
  bytes l v a c := (word1_apply a2 X2 k h l v a c).trans (by congr 1 <;> omega)
  scale l q v g s c := (rows1_arg7 a3 X3 a7 k h l q v g s c).trans (by congr 1 <;> omega)
  mins l q v g s c := (rows1_arg8 a4 X4 a8 k h l q v g s c).trans (by congr 1 <;> omega)
  acts q i R := (acts1_apply a6 X6 k h q i R).trans ((hA _ _ _ q.isLt i.isLt (by omega)).trans (by congr 1; omega))

/-! ## Loop 2 -/

theorem stores2_arg7 (a : Memref sig .tc .vmem S1024x512 .bf16) (X : BufTy.Contents (Elt Ideal) a.view.ty) (k : Fin k0_t2_loop.trips) :
    trip_k0_t2.sl.HW_arg7_8 a X k =
      [⟨Rect.unit (s := S4x2x2x256x128) (k0_off32 k) S1x1x1x16x128.size (k0_off32_inb k), pairRows 1 (View.readAt (Elt Ideal) a.view (Rect.unit (s := S1024x512) (k0_off26 k (BitVec.ofNat 32 (256 * (1 : Fin 4).val))) S16x128.size (k0_off26_inb k 1)).toLoadRect X) (View.readAt (Elt Ideal) a.view (Rect.unit (s := S1024x512) (k0_off26 k (BitVec.ofNat 32 (256 * (3 : Fin 4).val))) S16x128.size (k0_off26_inb k 3)).toLoadRect X)⟩,
       ⟨Rect.unit (s := S4x2x2x256x128) (k0_off31 k) S1x1x1x16x128.size (k0_off31_inb k), pairRows 0 (View.readAt (Elt Ideal) a.view (Rect.unit (s := S1024x512) (k0_off26 k (BitVec.ofNat 32 (256 * (1 : Fin 4).val))) S16x128.size (k0_off26_inb k 1)).toLoadRect X) (View.readAt (Elt Ideal) a.view (Rect.unit (s := S1024x512) (k0_off26 k (BitVec.ofNat 32 (256 * (3 : Fin 4).val))) S16x128.size (k0_off26_inb k 3)).toLoadRect X)⟩,
       ⟨Rect.unit (s := S4x2x2x256x128) (k0_off30 k) S1x1x1x16x128.size (k0_off30_inb k), pairRows 1 (View.readAt (Elt Ideal) a.view (Rect.unit (s := S1024x512) (k0_off23 k (BitVec.ofNat 32 (256 * (1 : Fin 4).val))) S16x128.size (k0_off23_inb k 1)).toLoadRect X) (View.readAt (Elt Ideal) a.view (Rect.unit (s := S1024x512) (k0_off23 k (BitVec.ofNat 32 (256 * (3 : Fin 4).val))) S16x128.size (k0_off23_inb k 3)).toLoadRect X)⟩,
       ⟨Rect.unit (s := S4x2x2x256x128) (k0_off29 k) S1x1x1x16x128.size (k0_off29_inb k), pairRows 0 (View.readAt (Elt Ideal) a.view (Rect.unit (s := S1024x512) (k0_off23 k (BitVec.ofNat 32 (256 * (1 : Fin 4).val))) S16x128.size (k0_off23_inb k 1)).toLoadRect X) (View.readAt (Elt Ideal) a.view (Rect.unit (s := S1024x512) (k0_off23 k (BitVec.ofNat 32 (256 * (3 : Fin 4).val))) S16x128.size (k0_off23_inb k 3)).toLoadRect X)⟩,
       ⟨Rect.unit (s := S4x2x2x256x128) (k0_off28 k) S1x1x1x16x128.size (k0_off28_inb k), pairRows 1 (View.readAt (Elt Ideal) a.view (Rect.unit (s := S1024x512) (k0_off26 k (BitVec.ofNat 32 (256 * (0 : Fin 4).val))) S16x128.size (k0_off26_inb k 0)).toLoadRect X) (View.readAt (Elt Ideal) a.view (Rect.unit (s := S1024x512) (k0_off26 k (BitVec.ofNat 32 (256 * (2 : Fin 4).val))) S16x128.size (k0_off26_inb k 2)).toLoadRect X)⟩,
       ⟨Rect.unit (s := S4x2x2x256x128) (k0_off27 k) S1x1x1x16x128.size (k0_off27_inb k), pairRows 0 (View.readAt (Elt Ideal) a.view (Rect.unit (s := S1024x512) (k0_off26 k (BitVec.ofNat 32 (256 * (0 : Fin 4).val))) S16x128.size (k0_off26_inb k 0)).toLoadRect X) (View.readAt (Elt Ideal) a.view (Rect.unit (s := S1024x512) (k0_off26 k (BitVec.ofNat 32 (256 * (2 : Fin 4).val))) S16x128.size (k0_off26_inb k 2)).toLoadRect X)⟩,
       ⟨Rect.unit (s := S4x2x2x256x128) (k0_off25 k) S1x1x1x16x128.size (k0_off25_inb k), pairRows 1 (View.readAt (Elt Ideal) a.view (Rect.unit (s := S1024x512) (k0_off23 k (BitVec.ofNat 32 (256 * (0 : Fin 4).val))) S16x128.size (k0_off23_inb k 0)).toLoadRect X) (View.readAt (Elt Ideal) a.view (Rect.unit (s := S1024x512) (k0_off23 k (BitVec.ofNat 32 (256 * (2 : Fin 4).val))) S16x128.size (k0_off23_inb k 2)).toLoadRect X)⟩,
       ⟨Rect.unit (s := S4x2x2x256x128) (k0_off24 k) S1x1x1x16x128.size (k0_off24_inb k), pairRows 0 (View.readAt (Elt Ideal) a.view (Rect.unit (s := S1024x512) (k0_off23 k (BitVec.ofNat 32 (256 * (0 : Fin 4).val))) S16x128.size (k0_off23_inb k 0)).toLoadRect X) (View.readAt (Elt Ideal) a.view (Rect.unit (s := S1024x512) (k0_off23 k (BitVec.ofNat 32 (256 * (2 : Fin 4).val))) S16x128.size (k0_off23_inb k 2)).toLoadRect X)⟩] := rfl

theorem stores2_arg7_agree (a : Memref sig .tc .vmem S1024x512 .bf16) (X : BufTy.Contents (Elt Ideal) a.view.ty) (k : Fin k0_t2_loop.trips) :
    ∀ p ∈ trip_k0_t2.sl.HW_arg7_8 a X k, ∀ x : p.1.shape.Idx, p.2 x = pairs (at2 (a.view.read (Elt Ideal) X)) (p.1.emb x) := by
  rw [stores2_arg7]
  simp only [List.forall_mem_cons, List.not_mem_nil, false_imp_iff, implies_true, and_true]
  refine ⟨fun x => pairs_store a X 1 3 1 k.val _ (k0_off32_eq k) _ _ _ (k0_off26_eq k 1) (k0_off26_eq k 3) _ _ x,
    fun x => pairs_store a X 0 3 1 k.val _ (k0_off31_eq k) _ _ _ (k0_off26_eq k 1) (k0_off26_eq k 3) _ _ x,
    fun x => pairs_store a X 1 2 1 k.val _ (k0_off30_eq k) _ _ _ (k0_off23_eq k 1) (k0_off23_eq k 3) _ _ x,
    fun x => pairs_store a X 0 2 1 k.val _ (k0_off29_eq k) _ _ _ (k0_off23_eq k 1) (k0_off23_eq k 3) _ _ x,
    fun x => pairs_store a X 1 3 0 k.val _ (k0_off28_eq k) _ _ _ (k0_off26_eq k 0) (k0_off26_eq k 2) _ _ x,
    fun x => pairs_store a X 0 3 0 k.val _ (k0_off27_eq k) _ _ _ (k0_off26_eq k 0) (k0_off26_eq k 2) _ _ x,
    fun x => pairs_store a X 1 2 0 k.val _ (k0_off25_eq k) _ _ _ (k0_off23_eq k 0) (k0_off23_eq k 2) _ _ x,
    fun x => pairs_store a X 0 2 0 k.val _ (k0_off24_eq k) _ _ _ (k0_off23_eq k 0) (k0_off23_eq k 2) _ _ x⟩

theorem rows2_arg7 (a : Memref sig .tc .vmem S1024x512 .bf16) (X : BufTy.Contents (Elt Ideal) a.view.ty) (b : Memref sig .tc .vmem S4x2x2x256x128 .bf16) (k : Fin k0_t2_loop.trips)
    (h l q : Fin 2) (v : Fin 4) (g t : Fin 2) (c : Fin 128) :
    (rows2 b (trip_k0_t2.sl.HW_arg7_8 a X k) k h l q v g (ix5 0 0 0 t c) : EReal)
      = at2 (a.view.read (Elt Ideal) X) (256 * (q.val + 2 * t.val) + 16 * k.val + 2 * (4 * h.val + v.val) + g.val) (128 * (2 + l.val) + c.val) := by
  have hr : 4 * h.val + v.val < 8 := by omega
  match l, q, g with
  | 0, 0, 0 => exact pairs_load b _ _ (stores2_arg7_agree a X k) 2 0 0 k.val (4 * h.val + v.val) _ (k0_off24_eq k) (k0_off24_inb k) ⟨_, (stores2_arg7 a X k).symm ▸ List.mem_cons_of_mem _ (List.mem_cons_of_mem _ (List.mem_cons_of_mem _ (List.mem_cons_of_mem _ (List.mem_cons_of_mem _ (List.mem_cons_of_mem _ (List.mem_cons_of_mem _ (List.mem_cons_self))))))), rfl⟩ _ ((k0_off34_eq k h v).trans (by rw [show 16 * k.val + 8 * h.val + 2 * v.val = 16 * k.val + 2 * (4 * h.val + v.val) by omega])) hr _ t c
  | 0, 0, 1 => exact pairs_load b _ _ (stores2_arg7_agree a X k) 2 0 1 k.val (4 * h.val + v.val) _ (k0_off25_eq k) (k0_off25_inb k) ⟨_, (stores2_arg7 a X k).symm ▸ List.mem_cons_of_mem _ (List.mem_cons_of_mem _ (List.mem_cons_of_mem _ (List.mem_cons_of_mem _ (List.mem_cons_of_mem _ (List.mem_cons_of_mem _ (List.mem_cons_self)))))), rfl⟩ _ ((k0_off35_eq k h v).trans (by rw [show 16 * k.val + 8 * h.val + 2 * v.val = 16 * k.val + 2 * (4 * h.val + v.val) by omega])) hr _ t c
  | 0, 1, 0 => exact pairs_load b _ _ (stores2_arg7_agree a X k) 2 1 0 k.val (4 * h.val + v.val) _ (k0_off29_eq k) (k0_off29_inb k) ⟨_, (stores2_arg7 a X k).symm ▸ List.mem_cons_of_mem _ (List.mem_cons_of_mem _ (List.mem_cons_of_mem _ (List.mem_cons_self))), rfl⟩ _ ((k0_off36_eq k h v).trans (by rw [show 16 * k.val + 8 * h.val + 2 * v.val = 16 * k.val + 2 * (4 * h.val + v.val) by omega])) hr _ t c
  | 0, 1, 1 => exact pairs_load b _ _ (stores2_arg7_agree a X k) 2 1 1 k.val (4 * h.val + v.val) _ (k0_off30_eq k) (k0_off30_inb k) ⟨_, (stores2_arg7 a X k).symm ▸ List.mem_cons_of_mem _ (List.mem_cons_of_mem _ (List.mem_cons_self)), rfl⟩ _ ((k0_off37_eq k h v).trans (by rw [show 16 * k.val + 8 * h.val + 2 * v.val = 16 * k.val + 2 * (4 * h.val + v.val) by omega])) hr _ t c
  | 1, 0, 0 => exact pairs_load b _ _ (stores2_arg7_agree a X k) 3 0 0 k.val (4 * h.val + v.val) _ (k0_off27_eq k) (k0_off27_inb k) ⟨_, (stores2_arg7 a X k).symm ▸ List.mem_cons_of_mem _ (List.mem_cons_of_mem _ (List.mem_cons_of_mem _ (List.mem_cons_of_mem _ (List.mem_cons_of_mem _ (List.mem_cons_self))))), rfl⟩ _ ((k0_off39_eq k h v).trans (by rw [show 16 * k.val + 8 * h.val + 2 * v.val = 16 * k.val + 2 * (4 * h.val + v.val) by omega])) hr _ t c
  | 1, 0, 1 => exact pairs_load b _ _ (stores2_arg7_agree a X k) 3 0 1 k.val (4 * h.val + v.val) _ (k0_off28_eq k) (k0_off28_inb k) ⟨_, (stores2_arg7 a X k).symm ▸ List.mem_cons_of_mem _ (List.mem_cons_of_mem _ (List.mem_cons_of_mem _ (List.mem_cons_of_mem _ (List.mem_cons_self)))), rfl⟩ _ ((k0_off40_eq k h v).trans (by rw [show 16 * k.val + 8 * h.val + 2 * v.val = 16 * k.val + 2 * (4 * h.val + v.val) by omega])) hr _ t c
  | 1, 1, 0 => exact pairs_load b _ _ (stores2_arg7_agree a X k) 3 1 0 k.val (4 * h.val + v.val) _ (k0_off31_eq k) (k0_off31_inb k) ⟨_, (stores2_arg7 a X k).symm ▸ List.mem_cons_of_mem _ (List.mem_cons_self), rfl⟩ _ ((k0_off41_eq k h v).trans (by rw [show 16 * k.val + 8 * h.val + 2 * v.val = 16 * k.val + 2 * (4 * h.val + v.val) by omega])) hr _ t c
  | 1, 1, 1 => exact pairs_load b _ _ (stores2_arg7_agree a X k) 3 1 1 k.val (4 * h.val + v.val) _ (k0_off32_eq k) (k0_off32_inb k) ⟨_, (stores2_arg7 a X k).symm ▸ List.mem_cons_self, rfl⟩ _ ((k0_off42_eq k h v).trans (by rw [show 16 * k.val + 8 * h.val + 2 * v.val = 16 * k.val + 2 * (4 * h.val + v.val) by omega])) hr _ t c

theorem stores2_arg8 (a : Memref sig .tc .vmem S1024x512 .bf16) (X : BufTy.Contents (Elt Ideal) a.view.ty) (k : Fin k0_t2_loop.trips) :
    trip_k0_t2.sl.HW_arg8_8 a X k =
      [⟨Rect.unit (s := S4x2x2x256x128) (k0_off32 k) S1x1x1x16x128.size (k0_off32_inb k), pairRows 1 (View.readAt (Elt Ideal) a.view (Rect.unit (s := S1024x512) (k0_off26 k (BitVec.ofNat 32 (256 * (1 : Fin 4).val))) S16x128.size (k0_off26_inb k 1)).toLoadRect X) (View.readAt (Elt Ideal) a.view (Rect.unit (s := S1024x512) (k0_off26 k (BitVec.ofNat 32 (256 * (3 : Fin 4).val))) S16x128.size (k0_off26_inb k 3)).toLoadRect X)⟩,
       ⟨Rect.unit (s := S4x2x2x256x128) (k0_off31 k) S1x1x1x16x128.size (k0_off31_inb k), pairRows 0 (View.readAt (Elt Ideal) a.view (Rect.unit (s := S1024x512) (k0_off26 k (BitVec.ofNat 32 (256 * (1 : Fin 4).val))) S16x128.size (k0_off26_inb k 1)).toLoadRect X) (View.readAt (Elt Ideal) a.view (Rect.unit (s := S1024x512) (k0_off26 k (BitVec.ofNat 32 (256 * (3 : Fin 4).val))) S16x128.size (k0_off26_inb k 3)).toLoadRect X)⟩,
       ⟨Rect.unit (s := S4x2x2x256x128) (k0_off30 k) S1x1x1x16x128.size (k0_off30_inb k), pairRows 1 (View.readAt (Elt Ideal) a.view (Rect.unit (s := S1024x512) (k0_off23 k (BitVec.ofNat 32 (256 * (1 : Fin 4).val))) S16x128.size (k0_off23_inb k 1)).toLoadRect X) (View.readAt (Elt Ideal) a.view (Rect.unit (s := S1024x512) (k0_off23 k (BitVec.ofNat 32 (256 * (3 : Fin 4).val))) S16x128.size (k0_off23_inb k 3)).toLoadRect X)⟩,
       ⟨Rect.unit (s := S4x2x2x256x128) (k0_off29 k) S1x1x1x16x128.size (k0_off29_inb k), pairRows 0 (View.readAt (Elt Ideal) a.view (Rect.unit (s := S1024x512) (k0_off23 k (BitVec.ofNat 32 (256 * (1 : Fin 4).val))) S16x128.size (k0_off23_inb k 1)).toLoadRect X) (View.readAt (Elt Ideal) a.view (Rect.unit (s := S1024x512) (k0_off23 k (BitVec.ofNat 32 (256 * (3 : Fin 4).val))) S16x128.size (k0_off23_inb k 3)).toLoadRect X)⟩,
       ⟨Rect.unit (s := S4x2x2x256x128) (k0_off28 k) S1x1x1x16x128.size (k0_off28_inb k), pairRows 1 (View.readAt (Elt Ideal) a.view (Rect.unit (s := S1024x512) (k0_off26 k (BitVec.ofNat 32 (256 * (0 : Fin 4).val))) S16x128.size (k0_off26_inb k 0)).toLoadRect X) (View.readAt (Elt Ideal) a.view (Rect.unit (s := S1024x512) (k0_off26 k (BitVec.ofNat 32 (256 * (2 : Fin 4).val))) S16x128.size (k0_off26_inb k 2)).toLoadRect X)⟩,
       ⟨Rect.unit (s := S4x2x2x256x128) (k0_off27 k) S1x1x1x16x128.size (k0_off27_inb k), pairRows 0 (View.readAt (Elt Ideal) a.view (Rect.unit (s := S1024x512) (k0_off26 k (BitVec.ofNat 32 (256 * (0 : Fin 4).val))) S16x128.size (k0_off26_inb k 0)).toLoadRect X) (View.readAt (Elt Ideal) a.view (Rect.unit (s := S1024x512) (k0_off26 k (BitVec.ofNat 32 (256 * (2 : Fin 4).val))) S16x128.size (k0_off26_inb k 2)).toLoadRect X)⟩,
       ⟨Rect.unit (s := S4x2x2x256x128) (k0_off25 k) S1x1x1x16x128.size (k0_off25_inb k), pairRows 1 (View.readAt (Elt Ideal) a.view (Rect.unit (s := S1024x512) (k0_off23 k (BitVec.ofNat 32 (256 * (0 : Fin 4).val))) S16x128.size (k0_off23_inb k 0)).toLoadRect X) (View.readAt (Elt Ideal) a.view (Rect.unit (s := S1024x512) (k0_off23 k (BitVec.ofNat 32 (256 * (2 : Fin 4).val))) S16x128.size (k0_off23_inb k 2)).toLoadRect X)⟩,
       ⟨Rect.unit (s := S4x2x2x256x128) (k0_off24 k) S1x1x1x16x128.size (k0_off24_inb k), pairRows 0 (View.readAt (Elt Ideal) a.view (Rect.unit (s := S1024x512) (k0_off23 k (BitVec.ofNat 32 (256 * (0 : Fin 4).val))) S16x128.size (k0_off23_inb k 0)).toLoadRect X) (View.readAt (Elt Ideal) a.view (Rect.unit (s := S1024x512) (k0_off23 k (BitVec.ofNat 32 (256 * (2 : Fin 4).val))) S16x128.size (k0_off23_inb k 2)).toLoadRect X)⟩] := rfl

theorem stores2_arg8_agree (a : Memref sig .tc .vmem S1024x512 .bf16) (X : BufTy.Contents (Elt Ideal) a.view.ty) (k : Fin k0_t2_loop.trips) :
    ∀ p ∈ trip_k0_t2.sl.HW_arg8_8 a X k, ∀ x : p.1.shape.Idx, p.2 x = pairs (at2 (a.view.read (Elt Ideal) X)) (p.1.emb x) := by
  rw [stores2_arg8]
  simp only [List.forall_mem_cons, List.not_mem_nil, false_imp_iff, implies_true, and_true]
  refine ⟨fun x => pairs_store a X 1 3 1 k.val _ (k0_off32_eq k) _ _ _ (k0_off26_eq k 1) (k0_off26_eq k 3) _ _ x,
    fun x => pairs_store a X 0 3 1 k.val _ (k0_off31_eq k) _ _ _ (k0_off26_eq k 1) (k0_off26_eq k 3) _ _ x,
    fun x => pairs_store a X 1 2 1 k.val _ (k0_off30_eq k) _ _ _ (k0_off23_eq k 1) (k0_off23_eq k 3) _ _ x,
    fun x => pairs_store a X 0 2 1 k.val _ (k0_off29_eq k) _ _ _ (k0_off23_eq k 1) (k0_off23_eq k 3) _ _ x,
    fun x => pairs_store a X 1 3 0 k.val _ (k0_off28_eq k) _ _ _ (k0_off26_eq k 0) (k0_off26_eq k 2) _ _ x,
    fun x => pairs_store a X 0 3 0 k.val _ (k0_off27_eq k) _ _ _ (k0_off26_eq k 0) (k0_off26_eq k 2) _ _ x,
    fun x => pairs_store a X 1 2 0 k.val _ (k0_off25_eq k) _ _ _ (k0_off23_eq k 0) (k0_off23_eq k 2) _ _ x,
    fun x => pairs_store a X 0 2 0 k.val _ (k0_off24_eq k) _ _ _ (k0_off23_eq k 0) (k0_off23_eq k 2) _ _ x⟩

theorem rows2_arg8 (a : Memref sig .tc .vmem S1024x512 .bf16) (X : BufTy.Contents (Elt Ideal) a.view.ty) (b : Memref sig .tc .vmem S4x2x2x256x128 .bf16) (k : Fin k0_t2_loop.trips)
    (h l q : Fin 2) (v : Fin 4) (g t : Fin 2) (c : Fin 128) :
    (rows2 b (trip_k0_t2.sl.HW_arg8_8 a X k) k h l q v g (ix5 0 0 0 t c) : EReal)
      = at2 (a.view.read (Elt Ideal) X) (256 * (q.val + 2 * t.val) + 16 * k.val + 2 * (4 * h.val + v.val) + g.val) (128 * (2 + l.val) + c.val) := by
  have hr : 4 * h.val + v.val < 8 := by omega
  match l, q, g with
  | 0, 0, 0 => exact pairs_load b _ _ (stores2_arg8_agree a X k) 2 0 0 k.val (4 * h.val + v.val) _ (k0_off24_eq k) (k0_off24_inb k) ⟨_, (stores2_arg8 a X k).symm ▸ List.mem_cons_of_mem _ (List.mem_cons_of_mem _ (List.mem_cons_of_mem _ (List.mem_cons_of_mem _ (List.mem_cons_of_mem _ (List.mem_cons_of_mem _ (List.mem_cons_of_mem _ (List.mem_cons_self))))))), rfl⟩ _ ((k0_off34_eq k h v).trans (by rw [show 16 * k.val + 8 * h.val + 2 * v.val = 16 * k.val + 2 * (4 * h.val + v.val) by omega])) hr _ t c
  | 0, 0, 1 => exact pairs_load b _ _ (stores2_arg8_agree a X k) 2 0 1 k.val (4 * h.val + v.val) _ (k0_off25_eq k) (k0_off25_inb k) ⟨_, (stores2_arg8 a X k).symm ▸ List.mem_cons_of_mem _ (List.mem_cons_of_mem _ (List.mem_cons_of_mem _ (List.mem_cons_of_mem _ (List.mem_cons_of_mem _ (List.mem_cons_of_mem _ (List.mem_cons_self)))))), rfl⟩ _ ((k0_off35_eq k h v).trans (by rw [show 16 * k.val + 8 * h.val + 2 * v.val = 16 * k.val + 2 * (4 * h.val + v.val) by omega])) hr _ t c
  | 0, 1, 0 => exact pairs_load b _ _ (stores2_arg8_agree a X k) 2 1 0 k.val (4 * h.val + v.val) _ (k0_off29_eq k) (k0_off29_inb k) ⟨_, (stores2_arg8 a X k).symm ▸ List.mem_cons_of_mem _ (List.mem_cons_of_mem _ (List.mem_cons_of_mem _ (List.mem_cons_self))), rfl⟩ _ ((k0_off36_eq k h v).trans (by rw [show 16 * k.val + 8 * h.val + 2 * v.val = 16 * k.val + 2 * (4 * h.val + v.val) by omega])) hr _ t c
  | 0, 1, 1 => exact pairs_load b _ _ (stores2_arg8_agree a X k) 2 1 1 k.val (4 * h.val + v.val) _ (k0_off30_eq k) (k0_off30_inb k) ⟨_, (stores2_arg8 a X k).symm ▸ List.mem_cons_of_mem _ (List.mem_cons_of_mem _ (List.mem_cons_self)), rfl⟩ _ ((k0_off37_eq k h v).trans (by rw [show 16 * k.val + 8 * h.val + 2 * v.val = 16 * k.val + 2 * (4 * h.val + v.val) by omega])) hr _ t c
  | 1, 0, 0 => exact pairs_load b _ _ (stores2_arg8_agree a X k) 3 0 0 k.val (4 * h.val + v.val) _ (k0_off27_eq k) (k0_off27_inb k) ⟨_, (stores2_arg8 a X k).symm ▸ List.mem_cons_of_mem _ (List.mem_cons_of_mem _ (List.mem_cons_of_mem _ (List.mem_cons_of_mem _ (List.mem_cons_of_mem _ (List.mem_cons_self))))), rfl⟩ _ ((k0_off39_eq k h v).trans (by rw [show 16 * k.val + 8 * h.val + 2 * v.val = 16 * k.val + 2 * (4 * h.val + v.val) by omega])) hr _ t c
  | 1, 0, 1 => exact pairs_load b _ _ (stores2_arg8_agree a X k) 3 0 1 k.val (4 * h.val + v.val) _ (k0_off28_eq k) (k0_off28_inb k) ⟨_, (stores2_arg8 a X k).symm ▸ List.mem_cons_of_mem _ (List.mem_cons_of_mem _ (List.mem_cons_of_mem _ (List.mem_cons_of_mem _ (List.mem_cons_self)))), rfl⟩ _ ((k0_off40_eq k h v).trans (by rw [show 16 * k.val + 8 * h.val + 2 * v.val = 16 * k.val + 2 * (4 * h.val + v.val) by omega])) hr _ t c
  | 1, 1, 0 => exact pairs_load b _ _ (stores2_arg8_agree a X k) 3 1 0 k.val (4 * h.val + v.val) _ (k0_off31_eq k) (k0_off31_inb k) ⟨_, (stores2_arg8 a X k).symm ▸ List.mem_cons_of_mem _ (List.mem_cons_self), rfl⟩ _ ((k0_off41_eq k h v).trans (by rw [show 16 * k.val + 8 * h.val + 2 * v.val = 16 * k.val + 2 * (4 * h.val + v.val) by omega])) hr _ t c
  | 1, 1, 1 => exact pairs_load b _ _ (stores2_arg8_agree a X k) 3 1 1 k.val (4 * h.val + v.val) _ (k0_off32_eq k) (k0_off32_inb k) ⟨_, (stores2_arg8 a X k).symm ▸ List.mem_cons_self, rfl⟩ _ ((k0_off42_eq k h v).trans (by rw [show 16 * k.val + 8 * h.val + 2 * v.val = 16 * k.val + 2 * (4 * h.val + v.val) by omega])) hr _ t c

theorem word2_apply (a : Memref sig .tc .vmem S4096x512 .i8) (X : BufTy.Contents (Elt Ideal) a.view.ty) (k : Fin k0_t2_loop.trips) (h l : Fin 2) (v : Fin 4) (i : Fin 32) (c : Fin 128) :
    word2 a X k h l v (ix2 i c) = at2 (a.view.read (Elt Ideal) X) (256 * k.val + 128 * h.val + 32 * v.val + i.val) (128 * (2 + l.val) + c.val) := by
  match l with
  | 0 => exact load2 a X _ _ _ _ (k0_off33_eq k h v) i c
  | 1 => exact load2 a X _ _ _ _ (k0_off38_eq k h v) i c

theorem acts2_apply (a : Memref sig .tc .vmem S2x8x8192 .bf16) (X : BufTy.Contents (Elt Ideal) a.view.ty) (k : Fin k0_t2_loop.trips) (h q : Fin 2) (i : Fin 8) (R : Fin 256) :
    (acts2 a X k h q (ix3 0 i R) : EReal) = at3 (a.view.read (Elt Ideal) X) q.val i.val (512 * k.val + 256 * h.val + R.val) := by
  match q with
  | 0 => exact (load3 a X _ _ _ _ _ (k0_off43_eq k h) 0 i R).trans (by simp only [Fin.val_zero, Nat.add_zero, Nat.zero_add])
  | 1 => exact (load3 a X _ _ _ _ _ (k0_off44_eq k h) 0 i R).trans (by simp only [Fin.val_zero, Fin.val_one, Nat.add_zero, Nat.zero_add])

/-- The loads of unit `2 k + h`. -/
theorem loads2 (a2 : Memref sig .tc .vmem S4096x512 .i8) (a3 a4 : Memref sig .tc .vmem S1024x512 .bf16) (a6 : Memref sig .tc .vmem S2x8x8192 .bf16)
    (a7 a8 : Memref sig .tc .vmem S4x2x2x256x128 .bf16) (X2 : BufTy.Contents (Elt Ideal) a2.view.ty) (X3 : BufTy.Contents (Elt Ideal) a3.view.ty)
    (X4 : BufTy.Contents (Elt Ideal) a4.view.ty) (X6 : BufTy.Contents (Elt Ideal) a6.view.ty) (A : ℕ → ℕ → EReal)
    (hA : ∀ q i p, q < 2 → i < 8 → p < 8192 → at3 (a6.view.read (Elt Ideal) X6) q i p = A i (4096 * (q + 2 * (p % 2)) + p / 2)) (k : Fin k0_t2_loop.trips) (hk : k.val < 16) (h : Fin 2) :
    UnitLoads A (at2 (a2.view.read (Elt Ideal) X2)) (at2 (a3.view.read (Elt Ideal) X3)) (at2 (a4.view.read (Elt Ideal) X4)) (2 * k.val + h.val) 256
      (word2 a2 X2 k h) (rows2 a7 (trip_k0_t2.sl.HW_arg7_8 a3 X3 k) k h) (rows2 a8 (trip_k0_t2.sl.HW_arg8_8 a4 X4 k) k h) (acts2 a6 X6 k h) where
  bytes l v a c := (word2_apply a2 X2 k h l v a c).trans (by congr 1 <;> omega)
  scale l q v g s c := (rows2_arg7 a3 X3 a7 k h l q v g s c).trans (by congr 1 <;> omega)
  mins l q v g s c := (rows2_arg8 a4 X4 a8 k h l q v g s c).trans (by congr 1 <;> omega)
  acts q i R := (acts2_apply a6 X6 k h q i R).trans ((hA _ _ _ q.isLt i.isLt (by omega)).trans (by congr 1; omega))

end Cert.KernelIdeal.Hand
-- ==== Proof.Trips.lean ====
/- The accumulators of the two counted loops before each trip: the sums over the rows of the trips before it. -/
module

public import proofs.«01_k».proof.Proof.Scratch
public import proofs.«01_k».proof.Proof.Gen.KernelIdeal.Loops

@[expose] public section

set_option maxRecDepth 16384

noncomputable section

namespace Cert.KernelIdeal.Hand

open Cert.KernelIdeal.Gen
open Idealize.ShloMosaic Cert.Spec
open Idealize.SL.Sem

/-- A trip adds the terms of its 256 rows. -/
theorem trip_apply {A : ℕ → ℕ → EReal} {B : ℕ → ℕ → BitVec 8} {S M : ℕ → ℕ → EReal} {k n0 : ℕ} {W : Fin 2 → Fin 2 → Fin 4 → Vec Ideal S32x128 .i8}
    {Sv Mv : Fin 2 → Fin 2 → Fin 2 → Fin 4 → Fin 2 → Vec Ideal S1x1x1x2x128 .bf16} {X : Fin 2 → Fin 2 → Vec Ideal S1x8x256 .bf16}
    (h : ∀ u : Fin 2, UnitLoads A B S M (2 * k + u.val) n0 (W u) (Sv u) (Mv u) (X u)) (acc : FVec Ideal S8x256 .f32) (i : Fin 8) (c : Fin 256)
    (hacc : (acc (ix2 i c) : EReal) = ∑ r ∈ Finset.range (256 * k), row4 A B S M i.val (n0 + c.val) r) :
    (trip acc W Sv Mv X (ix2 i c) : EReal) = ∑ r ∈ Finset.range (256 * (k + 1)), row4 A B S M i.val (n0 + c.val) r := by
  unfold trip
  have h0 := (h 0).unit acc i c (by rw [hacc]; congr 2; simp only [Fin.val_zero]; omega)
  have h1 := (h 1).unit _ i c h0
  rw [h1]
  congr 2
  simp only [Fin.val_one]; omega

theorem state1 (𝒱 : Variants) (c : Dev nD) (bd : Option 𝒱.V) (i : grid0.Coords) (arg1 : Memref sig .tc .vmem S8x16384 .bf16) (harg1 : arg1.IsWhole) (arg2 : Memref sig .tc .vmem S4096x512 .i8) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S8x512 .bf16) (harg5 : arg5.IsWhole) (arg6 : Memref sig .tc .vmem S2x8x8192 .bf16) (harg6 : arg6.IsWhole) (arg7 : Memref sig .tc .vmem S4x2x2x256x128 .bf16) (harg7 : arg7.IsWhole) (arg8 : Memref sig .tc .vmem S4x2x2x256x128 .bf16) (harg8 : arg8.IsWhole) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty)
    (G_arg7 : BufTy.Contents (Elt Ideal) arg7.view.ty) (G_arg8 : BufTy.Contents (Elt Ideal) arg8.view.ty) (init : FVec Ideal S8x256 .f32) (A : ℕ → ℕ → EReal)
    (hA : ∀ q i p, q < 2 → i < 8 → p < 8192 → at3 (arg6.view.read (Elt Ideal) X_arg6) q i p = A i (4096 * (q + 2 * (p % 2)) + p / 2))
    (hinit : ∀ (i : Fin 8) (c : Fin 256), (init (ix2 i c) : EReal) = 0) (i' : Fin 8) (c' : Fin 256) (n : ℕ) (hn : n ≤ 16) :
    ((st_k0_t1 (F := Ideal) 𝒱 c bd i arg1 harg1 arg2 harg2 arg3 harg3 arg4 harg4 arg5 harg5 arg6 harg6 arg7 harg7 arg8 harg8 X_arg2 X_arg3 X_arg4 X_arg6 G_arg7 G_arg8 init n).1 (ix2 i' c') : EReal)
      = ∑ r ∈ Finset.range (256 * n), row4 A (at2 (arg2.view.read (Elt Ideal) X_arg2)) (at2 (arg3.view.read (Elt Ideal) X_arg3)) (at2 (arg4.view.read (Elt Ideal) X_arg4)) i'.val (0 + c'.val) r := by
  have ht : k0_t1_loop.trips = 16 := by decide
  induction n with
  | zero => rw [st_k0_t1_zero]; exact (hinit i' c').trans (by simp only [Nat.mul_zero, Finset.range_zero, Finset.sum_empty])
  | succ n ih =>
    have hlt : n < k0_t1_loop.trips := by omega
    have hs := st_k0_t1_succ (F := Ideal) 𝒱 c bd i arg1 harg1 arg2 harg2 arg3 harg3 arg4 harg4 arg5 harg5 arg6 harg6 arg7 harg7 arg8 harg8 X_arg2 X_arg3 X_arg4 X_arg6 G_arg7 G_arg8 init ⟨n, hlt⟩
    rw [show n + 1 = (⟨n, hlt⟩ : Fin k0_t1_loop.trips).val + 1 from rfl, hs]
    simp only [trip1_eq]
    exact trip_apply (k := n) (fun u => loads1 arg2 arg3 arg4 arg6 arg7 arg8 X_arg2 X_arg3 X_arg4 X_arg6 A hA ⟨n, hlt⟩ (by omega) u) _ i' c' (ih (by omega))

theorem state2 (𝒱 : Variants) (c : Dev nD) (bd : Option 𝒱.V) (i : grid0.Coords) (arg1 : Memref sig .tc .vmem S8x16384 .bf16) (harg1 : arg1.IsWhole) (arg2 : Memref sig .tc .vmem S4096x512 .i8) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S8x512 .bf16) (harg5 : arg5.IsWhole) (arg6 : Memref sig .tc .vmem S2x8x8192 .bf16) (harg6 : arg6.IsWhole) (arg7 : Memref sig .tc .vmem S4x2x2x256x128 .bf16) (harg7 : arg7.IsWhole) (arg8 : Memref sig .tc .vmem S4x2x2x256x128 .bf16) (harg8 : arg8.IsWhole) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty)
    (G_arg7 : BufTy.Contents (Elt Ideal) arg7.view.ty) (G_arg8 : BufTy.Contents (Elt Ideal) arg8.view.ty) (init : FVec Ideal S8x256 .f32) (A : ℕ → ℕ → EReal)
    (hA : ∀ q i p, q < 2 → i < 8 → p < 8192 → at3 (arg6.view.read (Elt Ideal) X_arg6) q i p = A i (4096 * (q + 2 * (p % 2)) + p / 2))
    (hinit : ∀ (i : Fin 8) (c : Fin 256), (init (ix2 i c) : EReal) = 0) (i' : Fin 8) (c' : Fin 256) (n : ℕ) (hn : n ≤ 16) :
    ((st_k0_t2 (F := Ideal) 𝒱 c bd i arg1 harg1 arg2 harg2 arg3 harg3 arg4 harg4 arg5 harg5 arg6 harg6 arg7 harg7 arg8 harg8 X_arg2 X_arg3 X_arg4 X_arg6 G_arg7 G_arg8 init n).1 (ix2 i' c') : EReal)
      = ∑ r ∈ Finset.range (256 * n), row4 A (at2 (arg2.view.read (Elt Ideal) X_arg2)) (at2 (arg3.view.read (Elt Ideal) X_arg3)) (at2 (arg4.view.read (Elt Ideal) X_arg4)) i'.val (256 + c'.val) r := by
  have ht : k0_t2_loop.trips = 16 := by decide
  induction n with
  | zero => rw [st_k0_t2_zero]; exact (hinit i' c').trans (by simp only [Nat.mul_zero, Finset.range_zero, Finset.sum_empty])
  | succ n ih =>
    have hlt : n < k0_t2_loop.trips := by omega
    have hs := st_k0_t2_succ (F := Ideal) 𝒱 c bd i arg1 harg1 arg2 harg2 arg3 harg3 arg4 harg4 arg5 harg5 arg6 harg6 arg7 harg7 arg8 harg8 X_arg2 X_arg3 X_arg4 X_arg6 G_arg7 G_arg8 init ⟨n, hlt⟩
    rw [show n + 1 = (⟨n, hlt⟩ : Fin k0_t2_loop.trips).val + 1 from rfl, hs]
    simp only [trip2_eq]
    exact trip_apply (k := n) (fun u => loads2 arg2 arg3 arg4 arg6 arg7 arg8 X_arg2 X_arg3 X_arg4 X_arg6 A hA ⟨n, hlt⟩ (by omega) u) _ i' c' (ih (by omega))

end Cert.KernelIdeal.Hand
-- ==== Proof.Interleave.lean ====
/- The interleaved activations the first grid point leaves in the first scratch buffer. -/
module

public import proofs.«01_k».proof.Proof.Scratch
public import Idealize.ShloMosaic.Lib.Writes
public import Idealize.ShloMosaic.Lib.Pipeline.ValueKit

@[expose] public section

set_option maxRecDepth 16384

noncomputable section

namespace Cert.KernelIdeal.Hand

open Cert.KernelIdeal.Gen
open Idealize.ShloMosaic Cert.Spec
open Idealize.SL.Sem

/-- The row that column `R` of the permutation matrix picks, in the kernel's word arithmetic: `R % 2 * 128 + R / 2`, the
    remainder and the quotient rounded down from the truncated ones. -/
def source (R : BitVec 32) : BitVec 32 :=
  let two : BitVec 32 := Scalar.select (Scalar.cmpi .eq 2#32 0#32) 1#32 2#32
  let r : BitVec 32 := IntOp.remsi .vector R two
  IntOp.addi
    (IntOp.muli
      (Scalar.select
        (IntOp.andi (IntOp.xori (IntOp.cmpi .slt r 0#32) (Scalar.cmpi .slt two 0#32)) (IntOp.cmpi .ne r 0#32))
        (IntOp.addi r two) r)
      128#32)
    (Scalar.select
      (IntOp.andi
        (IntOp.cmpi .ne
          (IntOp.subi (BitVec.setWidth 32 (IntOp.cmpi .sgt R 0#32)) (BitVec.setWidth 32 (IntOp.cmpi .slt R 0#32)))
          (Scalar.subi (Scalar.extui (Scalar.cmpi .sgt 2#32 0#32)) (Scalar.extui (Scalar.cmpi .slt 2#32 0#32))))
        (IntOp.cmpi .ne (IntOp.remsi .vector R 2#32) 0#32))
      (IntOp.subi (IntOp.divsi .vector R 2#32) 1#32)
      (IntOp.divsi .vector R 2#32))

theorem source_eq (R : Fin 256) : source (BitVec.ofNat 32 R.val) = BitVec.ofNat 32 (128 * (R.val % 2) + R.val / 2) := by
  revert R; decide +kernel

theorem oneHot_apply (s R : Fin 256) :
    ((k0_pay11 k0_pay10 : FVec Ideal S256x256 .bf16) (ix2 s R) : EReal) = if s.val = 128 * (R.val % 2) + R.val / 2 then 1 else 0 := by
  have h : ((k0_pay11 k0_pay10 : FVec Ideal S256x256 .bf16) (ix2 s R) : EReal)
      = FloatOps.sitofp (F := Ideal) FTy.f32 (BitVec.setWidth 32 (IntOp.cmpi .eq (BitVec.ofNat 32 s.val) (source (BitVec.ofNat 32 R.val)))) := by
    pointwise [k0_pay11, k0_pay10]
    rfl
  rw [h, source_eq]
  have e : IntOp.cmpi .eq (BitVec.ofNat 32 s.val) (BitVec.ofNat 32 (128 * (R.val % 2) + R.val / 2)) = if s.val = 128 * (R.val % 2) + R.val / 2 then 1#1 else 0#1 := by
    have hiff : BitVec.ofNat 32 s.val = BitVec.ofNat 32 (128 * (R.val % 2) + R.val / 2) ↔ s.val = 128 * (R.val % 2) + R.val / 2 := by
      rw [← BitVec.toNat_inj]; simp only [BitVec.toNat_ofNat]; omega
    by_cases hs : s.val = 128 * (R.val % 2) + R.val / 2
    · rw [if_pos hs, hs]; simp [IntOp.cmpi]
    · rw [if_neg hs]; have hne := mt hiff.mp hs; simp only [IntOp.cmpi]; rw [beq_eq_false_iff_ne.mpr hne]; rfl
  rw [e]
  show (((((if s.val = 128 * (R.val % 2) + R.val / 2 then 1#1 else 0#1).setWidth 32).toInt : ℤ) : ℝ) : EReal) = _
  split <;> simp

/-! ## The products by the permutation matrix -/

theorem chunk_inb (q : Fin 2) (c : Fin 32) : ∀ r, (![0, 4096 * q.val + 128 * c.val] : Fin 2 → ℕ) r + S8x128.size r ≤ S8x16384.size r := by
  intro r
  match r with
  | ⟨0, _⟩ => exact show 0 + 8 ≤ 8 by omega
  | ⟨1, _⟩ => exact show 4096 * q.val + 128 * c.val + 128 ≤ 16384 by omega

theorem chunk_inb' (q : Fin 2) (c : Fin 32) : ∀ r, (![0, 4096 * (q.val + 2) + 128 * c.val] : Fin 2 → ℕ) r + S8x128.size r ≤ S8x16384.size r := by
  intro r
  match r with
  | ⟨0, _⟩ => exact show 0 + 8 ≤ 8 by omega
  | ⟨1, _⟩ => exact show 4096 * (q.val + 2) + 128 * c.val + 128 ≤ 16384 by omega

/-- The loads of chunk `c` of fields `q` and `q + 2`, side by side. -/
def chunk (a : Memref sig .tc .vmem S8x16384 .bf16) (X : BufTy.Contents (Elt Ideal) a.view.ty) (q : Fin 2) (c : Fin 32) : FVec Ideal S8x256 .f32 :=
  extf .f32 (concatenate S8x256 1
    [⟨S8x128, shapeCast S8x128 (View.readAt (Elt Ideal) a.view (Rect.unit (s := S8x16384) ![0, 4096 * q.val + 128 * c.val] S8x128.size (chunk_inb q c)).toLoadRect X) shapeCasts_S8x128_S8x128⟩,
     ⟨S8x128, shapeCast S8x128 (View.readAt (Elt Ideal) a.view (Rect.unit (s := S8x16384) ![0, 4096 * (q.val + 2) + 128 * c.val] S8x128.size (chunk_inb' q c)).toLoadRect X) shapeCasts_S8x128_S8x128⟩]
    concatenates_S8x128_S8x128_S8x256_d1 : FVec Ideal S8x256 .bf16) bitsLt_bf16_f32

/-- All chunks of a pair, stacked. -/
def stacked (a : Memref sig .tc .vmem S8x16384 .bf16) (X : BufTy.Contents (Elt Ideal) a.view.ty) (q : Fin 2) : FVec Ideal S256x256 .f32 :=
  concatenate S256x256 0 (List.ofFn fun c : Fin 32 => (⟨S8x256, chunk a X q c⟩ : (s : Shape) × (s.Idx → EReal))) concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0

/-- The stacked chunks times the permutation matrix. -/
def permuted (a : Memref sig .tc .vmem S8x16384 .bf16) (X : BufTy.Contents (Elt Ideal) a.view.ty) (q : Fin 2) : FVec Ideal S256x256 .f32 :=
  matmul dot_S256x256_S256x256_S256x256_1_0_0_1_n_n none (truncf .bf16 (stacked a X q) bitsLt_bf16_f32) (k0_pay11 k0_pay10) (constant S256x256 .f32 0x00000000#32)

theorem permuted_slices (c : Fin 32) : S256x256.Slices ![8 * c.val, 0] S8x256 := by
  revert c; decide

/-- What is stored of chunk `c`. -/
def stored (a : Memref sig .tc .vmem S8x16384 .bf16) (X : BufTy.Contents (Elt Ideal) a.view.ty) (q : Fin 2) (c : Fin 32) : FVec Ideal S1x8x256 .bf16 :=
  shapeCast S1x8x256 (truncf .bf16 (extractStridedSlice S8x256 ![8 * c.val, 0] (permuted a X q) (permuted_slices c)) bitsLt_bf16_f32) shapeCasts_S8x256_S1x8x256

theorem chunk_apply (a : Memref sig .tc .vmem S8x16384 .bf16) (X : BufTy.Contents (Elt Ideal) a.view.ty) (q : Fin 2) (c : Fin 32) (i : Fin 8) (s : Fin 256) :
    (chunk a X q c (ix2 i s) : EReal) = at2 (a.view.read (Elt Ideal) X) i.val (4096 * (q.val + 2 * (s.val / 128)) + 128 * c.val + s.val % 128) := by
  pointwise [chunk]
  split
  · rename_i h
    refine (load2 a X _ (chunk_inb q c) _ _ rfl i ⟨s.val, h⟩).trans ?_
    congr 1
    · omega
    · simp only; omega
  · rename_i h
    refine (load2 a X _ (chunk_inb' q c) _ _ rfl i ⟨s.val - 128, by omega⟩).trans ?_
    congr 1
    · omega
    · simp only; omega

theorem stacked_apply (a : Memref sig .tc .vmem S8x16384 .bf16) (X : BufTy.Contents (Elt Ideal) a.view.ty) (q : Fin 2) (r s : Fin 256) :
    (stacked a X q (ix2 r s) : EReal) = at2 (a.view.read (Elt Ideal) X) (r.val % 8) (4096 * (q.val + 2 * (s.val / 128)) + 128 * (r.val / 8) + s.val % 128) := by
  unfold stacked
  refine (concatenate_ofFn_apply (t := S256x256) (s₁ := S8x256) 0 _ _ rfl 8 rfl (ix2 r s) ⟨r.val / 8, by omega⟩ rfl
    (ix2 ⟨r.val % 8, by omega⟩ s) rfl (fun b hb => ?_)).trans ?_
  · match b with
    | ⟨0, _⟩ => exact absurd rfl hb
    | ⟨1, _⟩ => rfl
  · exact chunk_apply a X q _ _ s

/-- The matrix picks column `R % 2 * 128 + R / 2`: the other terms are zero times an activation, which is zero. -/
theorem permuted_apply (a : Memref sig .tc .vmem S8x16384 .bf16) (X : BufTy.Contents (Elt Ideal) a.view.ty) (q : Fin 2) (r R : Fin 256) :
    (permuted a X q (ix2 r R) : EReal) = at2 (a.view.read (Elt Ideal) X) (r.val % 8) (4096 * (q.val + 2 * (R.val % 2)) + 128 * (r.val / 8) + R.val / 2) := by
  have h : (permuted a X q (ix2 r R) : EReal) = ∑ s : Fin 256, (stacked a X q (ix2 r s) : EReal) * ((k0_pay11 k0_pay10 : FVec Ideal S256x256 .bf16) (ix2 s R) : EReal) := by
    pointwise [permuted]
  rw [h, Finset.sum_eq_single (⟨128 * (R.val % 2) + R.val / 2, by omega⟩ : Fin 256)]
  · rw [oneHot_apply, if_pos rfl, mul_one, stacked_apply]
    congr 1
    simp only; omega
  · intro s _ hs
    rw [oneHot_apply, if_neg fun e => hs (Fin.ext e), mul_zero]
  · intro hn; exact absurd (Finset.mem_univ _) hn

theorem stored_apply (a : Memref sig .tc .vmem S8x16384 .bf16) (X : BufTy.Contents (Elt Ideal) a.view.ty) (q : Fin 2) (c : Fin 32) (i : Fin 8) (R : Fin 256) :
    (stored a X q c (ix3 0 i R) : EReal) = at2 (a.view.read (Elt Ideal) X) i.val (4096 * (q.val + 2 * (R.val % 2)) + 128 * c.val + R.val / 2) := by
  have h : (stored a X q c (ix3 0 i R) : EReal) = (permuted a X q (ix2 ⟨8 * c.val + i.val, by omega⟩ R) : EReal) := by
    pointwise [stored]
  rw [h, permuted_apply]
  congr 1
  · simp only; omega
  · simp only; omega

/-! ## What the scratch holds after the stores -/

/-- The activations as the scratch keeps them: the columns of fields `q` and `q + 2` alternately. -/
def interleaved (x : ℕ → ℕ → EReal) : Vec Ideal S2x8x8192 .bf16 := fun y =>
  x (y 1).val (4096 * ((y 0).val + 2 * ((y 2).val % 2)) + (y 2).val / 2)

theorem place_inb (n : Fin 64) : ∀ r, (![n.val / 32, 0, 256 * (n.val % 32)] : Fin 3 → ℕ) r + S1x8x256.size r ≤ S2x8x8192.size r := by
  intro r
  match r with
  | ⟨0, _⟩ => exact show n.val / 32 + 1 ≤ 2 by omega
  | ⟨1, _⟩ => exact show 0 + 8 ≤ 8 by omega
  | ⟨2, _⟩ => exact show 256 * (n.val % 32) + 256 ≤ 8192 by omega

/-- Store number `n`: chunk `n % 32` of pair `n / 32`. -/
def place (a : Memref sig .tc .vmem S8x16384 .bf16) (X : BufTy.Contents (Elt Ideal) a.view.ty) (n : Fin 64) : View.Piece (Elt Ideal) S2x8x8192 .bf16 :=
  ⟨Rect.unit (s := S2x8x8192) ![n.val / 32, 0, 256 * (n.val % 32)] S1x8x256.size (place_inb n), stored a X ⟨n.val / 32, by omega⟩ ⟨n.val % 32, by omega⟩⟩

/-- All the stores, last first. -/
def places (a : Memref sig .tc .vmem S8x16384 .bf16) (X : BufTy.Contents (Elt Ideal) a.view.ty) : List (View.Piece (Elt Ideal) S2x8x8192 .bf16) :=
  List.ofFn fun n : Fin 64 => place a X ⟨63 - n.val, by omega⟩

theorem place_agree (a : Memref sig .tc .vmem S8x16384 .bf16) (X : BufTy.Contents (Elt Ideal) a.view.ty) (n : Fin 64) (x : (place a X n).1.shape.Idx) :
    (place a X n).2 x = interleaved (at2 (a.view.read (Elt Ideal) X)) ((place a X n).1.emb x) := by
  have hy : ∀ r, (((place a X n).1.emb x) r).val = (![n.val / 32, 0, 256 * (n.val % 32)] : Fin 3 → ℕ) r + (x r).val :=
    fun r => Rect.idx_unit_val _ _ (place_inb n) x r
  have y0 := hy 0; have y1 := hy 1; have y2 := hy 2
  have h0 : (x 0).val = 0 := Nat.lt_one_iff.mp (x 0).isLt
  have h1 : (x 1).val < 8 := (x 1).isLt
  have h2 : (x 2).val < 256 := (x 2).isLt
  replace y0 : _ = n.val / 32 + (x 0).val := y0
  replace y1 : _ = 0 + (x 1).val := y1
  replace y2 : _ = 256 * (n.val % 32) + (x 2).val := y2
  unfold interleaved
  rw [y0, y1, y2, h0]
  have e : (x : S1x8x256.Idx) = ix3 0 ⟨(x 1).val, h1⟩ ⟨(x 2).val, h2⟩ := by
    funext r
    match r with
    | ⟨0, _⟩ => exact Fin.ext h0
    | ⟨1, _⟩ => rfl
    | ⟨2, _⟩ => rfl
  have h := stored_apply a X ⟨n.val / 32, by omega⟩ ⟨n.val % 32, by omega⟩ ⟨(x 1).val, h1⟩ ⟨(x 2).val, h2⟩
  rw [← e] at h
  refine h.trans ?_
  congr 1
  · simp only; omega
  · simp only; omega

theorem places_read (a : Memref sig .tc .vmem S8x16384 .bf16) (X : BufTy.Contents (Elt Ideal) a.view.ty) (b : Memref sig .tc .vmem S2x8x8192 .bf16) (f : BufTy.Contents (Elt Ideal) b.view.ty) :
    b.view.read (Elt Ideal) (b.view.writes (Elt Ideal) f (places a X)) = interleaved (at2 (a.view.read (Elt Ideal) X)) := by
  funext y
  have y0 : (y 0).val < 2 := (y 0).isLt
  have y1 : (y 1).val < 8 := (y 1).isLt
  have y2 : (y 2).val < 8192 := (y 2).isLt
  refine View.read_writes_apply_of_pieces _ _ _ _ ?_ y ?_
  · intro p hp
    obtain ⟨n, rfl⟩ := (List.mem_ofFn' _ _).mp hp
    exact place_agree a X _
  · refine ⟨place a X ⟨32 * (y 0).val + (y 2).val / 256, by omega⟩, (List.mem_ofFn' _ _).mpr ⟨⟨63 - (32 * (y 0).val + (y 2).val / 256), by omega⟩, ?_⟩, ?_⟩
    · simp only
      congr 2
      omega
    · refine (Rect.mem_set_unit (inb := place_inb _)).mpr fun r => ?_
      match r with
      | ⟨0, _⟩ => exact ⟨show (32 * (y 0).val + (y 2).val / 256) / 32 ≤ (y 0).val by omega, show (y 0).val < (32 * (y 0).val + (y 2).val / 256) / 32 + 1 by omega⟩
      | ⟨1, _⟩ => exact ⟨Nat.zero_le _, show (y 1).val < 0 + 8 by omega⟩
      | ⟨2, _⟩ => exact ⟨show 256 * ((32 * (y 0).val + (y 2).val / 256) % 32) ≤ (y 2).val by omega, show (y 2).val < 256 * ((32 * (y 0).val + (y 2).val / 256) % 32) + 256 by omega⟩

end Cert.KernelIdeal.Hand
-- ==== Proof.Body.lean ====
/- The kernel body over the reals, at the first grid point and at a later one: it leaves the product of its blocks in the output
   block and the interleaved activations in the first scratch buffer. The run goes through the two counted loops by their
   generated invariants. -/
module

public import proofs.«01_k».proof.Proof.Gen.KernelIdeal.Frame
public import proofs.«01_k».proof.Proof.Gen.KernelIdeal.Loops
public import Idealize.ShloMosaic.Lib.Claim

public import proofs.«01_k».proof.Proof.Trips
public import proofs.«01_k».proof.Proof.Interleave

@[expose] public section

set_option maxRecDepth 16384

noncomputable section

namespace Cert.KernelIdeal.Value

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec

local notation "𝕄" => MT nD τ sig Unit (Elt Ideal) ℕ (UR sig nD τ) ℕ

/-- The block of the product: the sum over the rows of the four fields' terms. -/
def product (x : ℕ → ℕ → EReal) (w : ℕ → ℕ → BitVec 8) (s m : ℕ → ℕ → EReal) : Vec Ideal S8x512 .bf16 := fun y =>
  (∑ k ∈ Finset.range 4096, row4 x w s m (y 0).val (y 1).val k : EReal)

/-- The two halves the body stores are the product's columns, when its accumulators are. -/
theorem halves_read (b : Memref sig .tc .vmem S8x512 .bf16) (f : BufTy.Contents (Elt Ideal) b.view.ty) (x : ℕ → ℕ → EReal) (w : ℕ → ℕ → BitVec 8) (s m : ℕ → ℕ → EReal)
    (acc1 acc2 : FVec Ideal S8x256 .f32)
    (h1 : ∀ (i : Fin 8) (c : Fin 256), (acc1 (ix2 i c) : EReal) = ∑ k ∈ Finset.range (256 * 16), row4 x w s m i.val (0 + c.val) k)
    (h2 : ∀ (i : Fin 8) (c : Fin 256), (acc2 (ix2 i c) : EReal) = ∑ k ∈ Finset.range (256 * 16), row4 x w s m i.val (256 + c.val) k) :
    b.view.read (Elt Ideal) (b.view.writes (Elt Ideal) f
      [⟨Rect.unit (s := S8x512) ![0, 256] ![8, 256] inb_S8x512_S8x256_0_256, k0_pay9 acc2⟩, ⟨Rect.unit (s := S8x512) ![0, 0] ![8, 256] inb_S8x512_S8x256_0_0, k0_pay6 acc1⟩])
      = product x w s m := by
  funext y
  have y0 : (y 0).val < 8 := (y 0).isLt
  have y1 : (y 1).val < 512 := (y 1).isLt
  refine View.read_writes_apply_of_pieces _ _ _ _ ?_ y ?_
  · simp only [List.forall_mem_cons, List.not_mem_nil, false_imp_iff, implies_true, and_true]
    refine ⟨fun z => ?_, fun z => ?_⟩
    · have e : (z : S8x256.Idx) = ix2 (z 0) (z 1) := Idealize.ShloMosaic.eq_ix2 z
      have hz : ∀ r, (((Rect.unit (s := S8x512) ![0, 256] ![8, 256] inb_S8x512_S8x256_0_256).emb z) r).val = (![0, 256] : Fin 2 → ℕ) r + (z r).val :=
        fun r => Rect.idx_unit_val _ _ _ z r
      have z0 := hz 0; have z1 := hz 1
      replace z0 : _ = 0 + (z 0).val := z0
      replace z1 : _ = 256 + (z 1).val := z1
      unfold product
      rw [z0, z1, Nat.zero_add]
      refine Eq.trans ?_ (h2 (z 0) (z 1))
      show acc2 z = _
      exact congrArg acc2 e
    · have e : (z : S8x256.Idx) = ix2 (z 0) (z 1) := Idealize.ShloMosaic.eq_ix2 z
      have hz : ∀ r, (((Rect.unit (s := S8x512) ![0, 0] ![8, 256] inb_S8x512_S8x256_0_0).emb z) r).val = (![0, 0] : Fin 2 → ℕ) r + (z r).val :=
        fun r => Rect.idx_unit_val _ _ _ z r
      have z0 := hz 0; have z1 := hz 1
      replace z0 : _ = 0 + (z 0).val := z0
      replace z1 : _ = 0 + (z 1).val := z1
      unfold product
      rw [z0, z1, Nat.zero_add]
      refine Eq.trans ?_ (h1 (z 0) (z 1))
      show acc1 z = _
      exact congrArg acc1 e
  · by_cases hlt : (y 1).val < 256
    · refine ⟨_, List.mem_cons_of_mem _ List.mem_cons_self, (Rect.mem_set_unit (inb := inb_S8x512_S8x256_0_0)).mpr fun r => ?_⟩
      match r with
      | ⟨0, _⟩ => exact ⟨Nat.zero_le _, show (y 0).val < 0 + 8 by omega⟩
      | ⟨1, _⟩ => exact ⟨Nat.zero_le _, show (y 1).val < 0 + 256 by omega⟩
    · refine ⟨_, List.mem_cons_self, (Rect.mem_set_unit (inb := inb_S8x512_S8x256_0_256)).mpr fun r => ?_⟩
      match r with
      | ⟨0, _⟩ => exact ⟨Nat.zero_le _, show (y 0).val < 0 + 8 by omega⟩
      | ⟨1, _⟩ => exact ⟨show 256 ≤ (y 1).val by omega, show (y 1).val < 256 + 256 by omega⟩

/-- The initial accumulators are zero. -/
theorem zero1 (i : Fin 8) (c : Fin 256) : ((k0_pay4 : FVec Ideal S8x256 .f32) (ix2 i c) : EReal) = 0 := by
  pointwise [k0_pay4]
theorem zero2 (i : Fin 8) (c : Fin 256) : ((k0_pay7 : FVec Ideal S8x256 .f32) (ix2 i c) : EReal) = 0 := by
  pointwise [k0_pay7]

/-- The scratch's contents at natural-number coordinates. -/
theorem interleaved_at (x : ℕ → ℕ → EReal) (q i p : ℕ) (hq : q < 2) (hi : i < 8) (hp : p < 8192) :
    at3 (α := EReal) (Hand.interleaved x) q i p = x i (4096 * (q + 2 * (p % 2)) + p / 2) := by
  unfold at3
  rw [dif_pos ⟨hq, hi, hp⟩]
  rfl

/-- The condition of the body's `scf.if`, from the grid coordinates. -/
abbrev cond0_0 (i : grid0.Coords) : Prop := (Scalar.cmpi .ne (Scalar.extui (Scalar.cmpi .eq (BitVec.ofNat 32 (i 0).val) 0#32)) 0#32) = 1#1

set_option maxHeartbeats 4000000 in
/-- The body on whole staging memrefs, at any point (the `scf.if` taken or not): it gives the inputs back as they
    were and everything it writes at some contents. -/
theorem body_first (c : Dev nD) (i : grid0.Coords) (arg1 : Memref sig .tc .vmem S8x16384 .bf16) (harg1 : arg1.IsWhole) (arg2 : Memref sig .tc .vmem S4096x512 .i8) (harg2 : arg2.IsWhole) (arg3 : Memref sig .tc .vmem S1024x512 .bf16) (harg3 : arg3.IsWhole) (arg4 : Memref sig .tc .vmem S1024x512 .bf16) (harg4 : arg4.IsWhole)
    (arg5 : Memref sig .tc .vmem S8x512 .bf16) (harg5 : arg5.IsWhole) (arg6 : Memref sig .tc .vmem S2x8x8192 .bf16) (harg6 : arg6.IsWhole) (arg7 : Memref sig .tc .vmem S4x2x2x256x128 .bf16) (harg7 : arg7.IsWhole) (arg8 : Memref sig .tc .vmem S4x2x2x256x128 .bf16) (harg8 : arg8.IsWhole)
    (hc0 : cond0_0 i)
    (x0 : Vec Ideal S8x16384 .bf16) (x1 : Vec Ideal S4096x512 .i8) (x2 : Vec Ideal S1024x512 .bf16) (x3 : Vec Ideal S1024x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (product (at2 x0) (at2 x1) (at2 x2) (at2 x3)) ∗ owns (c : Thread nD τ) arg6 fullShare (Hand.interleaved (at2 x0)) ∗ (∃ d, owns (c : Thread nD τ) arg7 fullShare d) ∗ (∃ d, owns (c : Thread nD τ) arg8 fullShare d)) -∗ K ⟨⟩))
      ⊢ wp frame (wpE (defs₀ (F := Ideal)) Variants.none c none) E (cc0_w2a16_linear i arg1 harg1 arg2 harg2 arg3 harg3 arg4 harg4 arg5 harg5 arg6 harg6 arg7 harg7 arg8 harg8) K := by
  simp only [cc0_w2a16_linear_eq_skeleton]; unfold cc0_w2a16_linear_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    have hx : arg6.view.read (Elt Ideal) (arg6.view.writes (Elt Ideal) arg6.view.junk (body_first.sl.HS0_64 c arg1 harg1 x0)) = Hand.interleaved (at2 x0) := by
      rw [show body_first.sl.HS0_64 c arg1 harg1 x0 = Hand.places arg1 (harg1.unread x0) from rfl, Hand.places_read, harg1.read_unread]
    have hA := fun q i p hq hi hp => (congrArg (fun v => at3 (α := EReal) v q i p) hx).trans (interleaved_at (at2 x0) q i p hq hi hp)
    refine halves_read arg5 f4 _ _ _ _ _ _ (fun i' c' => ?_) (fun i' c' => ?_)
    · refine (Hand.state1 Variants.none c none i arg1 harg1 arg2 harg2 arg3 harg3 arg4 harg4 arg5 harg5 arg6 harg6 arg7 harg7 arg8 harg8 (harg2.unread x1) (harg3.unread x2) (harg4.unread x3) _ fs1 fs2 k0_pay4 (at2 x0) hA zero1 i' c' 16 le_rfl).trans ?_
      rw [harg2.read_unread, harg3.read_unread, harg4.read_unread]
    · refine (Hand.state2 Variants.none c none i arg1 harg1 arg2 harg2 arg3 harg3 arg4 harg4 arg5 harg5 arg6 harg6 arg7 harg7 arg8 harg8 (harg2.unread x1) (harg3.unread x2) (harg4.unread x3) _ _ _ k0_pay7 (at2 x0) hA zero2 i' c' 16 le_rfl).trans ?_
      rw [harg2.read_unread, harg3.read_unread, harg4.read_unread]
  isplitl [HS0]
  · iexists _; isplitr; swap; · iexact HS0
    ipureintro
    rw [show body_first.sl.HS0_64 c arg1 harg1 x0 = Hand.places arg1 (harg1.unread x0) from rfl, Hand.places_read, harg1.read_unread]
  isplitl [HS1]
  · iexists _, _; isplitr; swap; · iexact HS1
    ipureintro; rfl
  iexists _, _; isplitr; swap; · iexact HS2
  ipureintro; rfl

set_option maxHeartbeats 4000000 in
/-- The body on whole staging memrefs, at any point (the `scf.if` taken or not): it gives the inputs back as they
    were and everything it writes at some contents. -/
theorem body_later (c : Dev nD) (i : grid0.Coords) (arg1 : Memref sig .tc .vmem S8x16384 .bf16) (harg1 : arg1.IsWhole) (arg2 : Memref sig .tc .vmem S4096x512 .i8) (harg2 : arg2.IsWhole) (arg3 : Memref sig .tc .vmem S1024x512 .bf16) (harg3 : arg3.IsWhole) (arg4 : Memref sig .tc .vmem S1024x512 .bf16) (harg4 : arg4.IsWhole)
    (arg5 : Memref sig .tc .vmem S8x512 .bf16) (harg5 : arg5.IsWhole) (arg6 : Memref sig .tc .vmem S2x8x8192 .bf16) (harg6 : arg6.IsWhole) (arg7 : Memref sig .tc .vmem S4x2x2x256x128 .bf16) (harg7 : arg7.IsWhole) (arg8 : Memref sig .tc .vmem S4x2x2x256x128 .bf16) (harg8 : arg8.IsWhole)
    (hc0 : ¬cond0_0 i)
    (x0 : Vec Ideal S8x16384 .bf16) (x1 : Vec Ideal S4096x512 .i8) (x2 : Vec Ideal S1024x512 .bf16) (x3 : Vec Ideal S1024x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare (Hand.interleaved (at2 x0)) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (product (at2 x0) (at2 x1) (at2 x2) (at2 x3)) ∗ owns (c : Thread nD τ) arg6 fullShare (Hand.interleaved (at2 x0)) ∗ (∃ d, owns (c : Thread nD τ) arg7 fullShare d) ∗ (∃ d, owns (c : Thread nD τ) arg8 fullShare d)) -∗ K ⟨⟩))
      ⊢ wp frame (wpE (defs₀ (F := Ideal)) Variants.none c none) E (cc0_w2a16_linear i arg1 harg1 arg2 harg2 arg3 harg3 arg4 harg4 arg5 harg5 arg6 harg6 arg7 harg7 arg8 harg8) K := by
  simp only [cc0_w2a16_linear_eq_skeleton]; unfold cc0_w2a16_linear_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    have hx := hfs0
    have hA := fun q i p hq hi hp => (congrArg (fun v => at3 (α := EReal) v q i p) hx).trans (interleaved_at (at2 x0) q i p hq hi hp)
    refine halves_read arg5 f4 _ _ _ _ _ _ (fun i' c' => ?_) (fun i' c' => ?_)
    · refine (Hand.state1 Variants.none c none i arg1 harg1 arg2 harg2 arg3 harg3 arg4 harg4 arg5 harg5 arg6 harg6 arg7 harg7 arg8 harg8 (harg2.unread x1) (harg3.unread x2) (harg4.unread x3) _ fs1 fs2 k0_pay4 (at2 x0) hA zero1 i' c' 16 le_rfl).trans ?_
      rw [harg2.read_unread, harg3.read_unread, harg4.read_unread]
    · refine (Hand.state2 Variants.none c none i arg1 harg1 arg2 harg2 arg3 harg3 arg4 harg4 arg5 harg5 arg6 harg6 arg7 harg7 arg8 harg8 (harg2.unread x1) (harg3.unread x2) (harg4.unread x3) _ _ _ k0_pay7 (at2 x0) hA zero2 i' c' 16 le_rfl).trans ?_
      rw [harg2.read_unread, harg3.read_unread, harg4.read_unread]
  isplitl [HS0]
  · iexists _; isplitr; swap; · iexact HS0
    ipureintro; exact hfs0
  isplitl [HS1]
  · iexists _, _; isplitr; swap; · iexact HS1
    ipureintro; rfl
  iexists _, _; isplitr; swap; · iexact HS2
  ipureintro; rfl

end Cert.KernelIdeal.Value
-- ==== Proof.KernelValue.lean ====
/- The kernel's run over the reals: every execution ends with the argument arrays unchanged, every semaphore counter at zero
   and the result array at the product of the whole arrays. -/
module

public import proofs.«01_k».proof.Proof.Body
public import Idealize.ShloMosaic.Lib.Pipeline.Value

@[expose] public section

set_option maxRecDepth 16384

noncomputable section

namespace Cert.KernelIdeal.Value

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec

local notation "𝕄" => MT nD τ sig Unit (Elt Ideal) ℕ (UR sig nD τ) ℕ

/-- The body's condition holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

variable (m : (ℓ : Loc nD τ sig) → Buf (Elt Ideal) ℓ) (ρ : Dev nD → PrngReg)

/-- Each window's current staging memref at point `t`, spelled as the pipeline passes it (`bodyAt0`), and its wholeness. -/
abbrev ms0_0 (t : Fin cfg0.N) : Memref sig .tc .vmem S8x16384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2x8x8192 .bf16 := Memref.whole cc0_scratch0
abbrev scM0_1 : Memref sig .tc .vmem S4x2x2x256x128 .bf16 := Memref.whole cc0_scratch1
abbrev scM0_2 : Memref sig .tc .vmem S4x2x2x256x128 .bf16 := Memref.whole cc0_scratch2

/-- What the pipeline keeps between points: the scratch buffers, owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The operand arrays and their blocks -/

/-- The operand arrays as the pipeline finds them. -/
abbrev xs (c : Dev nD) : Vec Ideal S8x16384 .bf16 := V m c (Pipeline.arrRef spec0 0)
abbrev ws (c : Dev nD) : Vec Ideal S4096x8192 .i8 := V m c (Pipeline.arrRef spec0 1)
abbrev ss (c : Dev nD) : Vec Ideal S1024x8192 .bf16 := V m c (Pipeline.arrRef spec0 2)
abbrev ls (c : Dev nD) : Vec Ideal S1024x8192 .bf16 := V m c (Pipeline.arrRef spec0 3)

/-- Their blocks at point `t`. -/
abbrev xb (c : Dev nD) (t : Fin cfg0.N) : Vec Ideal S8x16384 .bf16 := iblk m c 0 t
abbrev wb (c : Dev nD) (t : Fin cfg0.N) : Vec Ideal S4096x512 .i8 := iblk m c 1 t
abbrev sb (c : Dev nD) (t : Fin cfg0.N) : Vec Ideal S1024x512 .bf16 := iblk m c 2 t
abbrev lb (c : Dev nD) (t : Fin cfg0.N) : Vec Ideal S1024x512 .bf16 := iblk m c 3 t

/-- The block indices at point `t`. -/
theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val :=
  (by decide +kernel : ∀ t : Fin grid0.N, _)
theorem index2 : ∀ t : Fin cfg0.N, win0_2.index t (0 : Fin 2) = 0 ∧ win0_2.index t (1 : Fin 2) = t.val :=
  (by decide +kernel : ∀ t : Fin grid0.N, _)
theorem index3 : ∀ t : Fin cfg0.N, win0_3.index t (0 : Fin 2) = 0 ∧ win0_3.index t (1 : Fin 2) = t.val :=
  (by decide +kernel : ∀ t : Fin grid0.N, _)
theorem index4 : ∀ t : Fin cfg0.N, win0_4.index t (0 : Fin 2) = 0 ∧ win0_4.index t (1 : Fin 2) = t.val :=
  (by decide +kernel : ∀ t : Fin grid0.N, _)

/-- The activations' block is the whole array at every point. -/
theorem xb_eq (c : Dev nD) (t : Fin cfg0.N) : xb m c t = xs m c := by
  funext y
  refine (at2_eq (xs m c) (((cfg0.win 0).blk t).view.emb y) (i := (y 0).val) (j := (y 1).val) ?_ ?_).trans (at2_eq (xs m c) y rfl rfl).symm
  · have h : (((cfg0.win 0).blk t).view.emb y 0).val = win0_0.index t (0 : Fin 2) * 8 + 1 * (y 0).val := rfl
    rw [h, (index0 t).1]; omega
  · have h : (((cfg0.win 0).blk t).view.emb y 1).val = win0_0.index t (1 : Fin 2) * 16384 + 1 * (y 1).val := rfl
    rw [h, (index0 t).2]; omega

/-- The other operands' blocks are 512 columns of their arrays. -/
theorem wb_at (c : Dev nD) (t : Fin cfg0.N) {i j : ℕ} (hi : i < 4096) (hj : j < 512) : at2 (wb m c t) i j = at2 (ws m c) i (512 * t.val + j) := by
  refine (at2_ix2 (wb m c t) ⟨i, hi⟩ ⟨j, hj⟩).symm.trans ?_
  refine at2_eq (ws m c) (((cfg0.win 1).blk t).view.emb (ix2 ⟨i, hi⟩ ⟨j, hj⟩)) ?_ ?_
  · have h : (((cfg0.win 1).blk t).view.emb (ix2 ⟨i, hi⟩ ⟨j, hj⟩) 0).val = win0_1.index t (0 : Fin 2) * 4096 + 1 * i := rfl
    rw [h, (index1 t).1]; omega
  · have h : (((cfg0.win 1).blk t).view.emb (ix2 ⟨i, hi⟩ ⟨j, hj⟩) 1).val = win0_1.index t (1 : Fin 2) * 512 + 1 * j := rfl
    rw [h, (index1 t).2]; omega
theorem sb_at (c : Dev nD) (t : Fin cfg0.N) {i j : ℕ} (hi : i < 1024) (hj : j < 512) : at2 (sb m c t) i j = at2 (ss m c) i (512 * t.val + j) := by
  refine (at2_ix2 (sb m c t) ⟨i, hi⟩ ⟨j, hj⟩).symm.trans ?_
  refine at2_eq (ss m c) (((cfg0.win 2).blk t).view.emb (ix2 ⟨i, hi⟩ ⟨j, hj⟩)) ?_ ?_
  · have h : (((cfg0.win 2).blk t).view.emb (ix2 ⟨i, hi⟩ ⟨j, hj⟩) 0).val = win0_2.index t (0 : Fin 2) * 1024 + 1 * i := rfl
    rw [h, (index2 t).1]; omega
  · have h : (((cfg0.win 2).blk t).view.emb (ix2 ⟨i, hi⟩ ⟨j, hj⟩) 1).val = win0_2.index t (1 : Fin 2) * 512 + 1 * j := rfl
    rw [h, (index2 t).2]; omega
theorem lb_at (c : Dev nD) (t : Fin cfg0.N) {i j : ℕ} (hi : i < 1024) (hj : j < 512) : at2 (lb m c t) i j = at2 (ls m c) i (512 * t.val + j) := by
  refine (at2_ix2 (lb m c t) ⟨i, hi⟩ ⟨j, hj⟩).symm.trans ?_
  refine at2_eq (ls m c) (((cfg0.win 3).blk t).view.emb (ix2 ⟨i, hi⟩ ⟨j, hj⟩)) ?_ ?_
  · have h : (((cfg0.win 3).blk t).view.emb (ix2 ⟨i, hi⟩ ⟨j, hj⟩) 0).val = win0_3.index t (0 : Fin 2) * 1024 + 1 * i := rfl
    rw [h, (index3 t).1]; omega
  · have h : (((cfg0.win 3).blk t).view.emb (ix2 ⟨i, hi⟩ ⟨j, hj⟩) 1).val = win0_3.index t (1 : Fin 2) * 512 + 1 * j := rfl
    rw [h, (index3 t).2]; omega

/-- What the body leaves in the output's block at point `t`. -/
abbrev out (c : Dev nD) (t : Fin cfg0.N) : Vec Ideal S8x512 .bf16 :=
  product (at2 (xs m c)) (at2 (wb m c t)) (at2 (sb m c t)) (at2 (lb m c t))

/-! ## The pipeline's proof data -/

/-- What the body keeps between points: the interleaved activations in the first scratch buffer, from the first
    point on, and the other scratch buffers and the generator register at some contents. -/
def PhiS (c : Dev nD) : ℕ → sProp 𝕄
  | 0 => Pipeline.ΦA spec0 c
  | _ + 1 => iprop(iprop(owns (c : Thread nD τ) scM0_0 fullShare (Hand.interleaved (at2 (xs m c))) ∗ (∃ d, owns (c : Thread nD τ) scM0_1 fullShare d) ∗ (∃ d, owns (c : Thread nD τ) scM0_2 fullShare d)) ∗ (∃ r, prngReg c r))

theorem PhiS_zero (c : Dev nD) : PhiS m c 0 = Pipeline.ΦA spec0 c := rfl
theorem PhiS_pos (c : Dev nD) (n : ℕ) (hz : n ≠ 0) :
    PhiS m c n = iprop(iprop(owns (c : Thread nD τ) scM0_0 fullShare (Hand.interleaved (at2 (xs m c))) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-- The proof data of the one pipeline on core `c`: the arrays as the pipeline finds them; after the body at point
    `t` each input's buffer at its block and the output's at the product of the blocks; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out m c t
  Φ t := PhiS m c t.val
  q _ := fullShare
  owed _ := 0

/-- The proof data's arrays are the contents the pipeline finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: at the first it fills the first scratch buffer, at a later one it finds it filled. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) from rfl, PhiS_pos m c _ (Nat.succ_ne_zero _),
    show (dats m 0 c).Φ t.castSucc = PhiS m c t.val from rfl]
  have hN : t.val < 16 := lt_of_lt_of_eq t.isLt (show cfg0.N = 16 from N_0)
  have ex : at2 (xs m c) = at2 (xb m c t) := by rw [xb_eq]
  unfold out
  rw [ex]
  by_cases hz : t.val = 0
  · rw [hz, PhiS_zero, PhiA0_eq]
    iintro ⟨⟨⟨HS0, HS1, HS2⟩, Hg⟩, Ho, ⟨%d0, H0⟩, ⟨%d1, H1⟩, ⟨%d2, H2⟩, ⟨%d3, H3⟩, ⟨%d4, H4⟩⟩
    iapply (body_first c (grid0.coords t) _ (hs0_0 t) _ (hs0_1 t) _ (hs0_2 t) _ (hs0_3 t) _ (hs0_4 t) _ (Memref.isWhole_whole _) _ (Memref.isWhole_whole _) _ (Memref.isWhole_whole _)
      ((hcond0_0 t).mpr (by omega)) (xb m c t) (wb m c t) (sb m c t) (lb m c t) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    iexact H4
  · rw [PhiS_pos m c _ hz, ex]
    iintro ⟨⟨⟨HS0, HS1, HS2⟩, Hg⟩, Ho, ⟨%d0, H0⟩, ⟨%d1, H1⟩, ⟨%d2, H2⟩, ⟨%d3, H3⟩, ⟨%d4, H4⟩⟩
    iapply (body_later c (grid0.coords t) _ (hs0_0 t) _ (hs0_1 t) _ (hs0_2 t) _ (hs0_3 t) _ (hs0_4 t) _ (Memref.isWhole_whole _) _ (Memref.isWhole_whole _) _ (Memref.isWhole_whole _)
      (fun h => hz (by have := (hcond0_0 t).mp h; omega)) (xb m c t) (wb m c t) (sb m c t) (lb m c t) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body's triple at every point, in the pipeline library's form. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the pipeline starts from is what the first point expects, -/
theorem hin (c : Dev nD) : Pipeline.ΦA spec0 c ⊢ (dats m 0 c).Φ 0 := by
  rw [show (dats m 0 c).Φ 0 = PhiS m c 0 from rfl, PhiS_zero m c]

/-- and what the last point leaves gives it back. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 16 := N_0; omega), PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-! ## The run and the frame -/

-- The library theorem's implicit arguments are found by unifying its conclusion with this one, which takes unfolding
-- plain definitions in a metavariable's type
set_option backward.isDefEq.respectTransparency.types false in
/-- Every execution ends, with the pipeline's arrays at what the proof data say and every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-- The frame: every execution ends, the argument arrays unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-! ## The result array -/

/-- What the result array ends holding: the product of the whole arrays. -/
def result (c : Dev nD) : Buf (Elt Ideal) ((c : Thread nD τ).loc main_v1) := fun y =>
  (∑ k ∈ Finset.range 4096, row4 (at2 (xs m c)) (at2 (ws m c)) (at2 (ss m c)) (at2 (ls m c)) (y 0).val (y 1).val k : EReal)

/-- A row of a block's product is a row of the whole arrays'. -/
theorem row4_block (c : Dev nD) (t : Fin cfg0.N) (i : ℕ) {n k : ℕ} (hk : k < 4096) (hn : n < 512) :
    row4 (at2 (xs m c)) (at2 (wb m c t)) (at2 (sb m c t)) (at2 (lb m c t)) i n k
      = row4 (at2 (xs m c)) (at2 (ws m c)) (at2 (ss m c)) (at2 (ls m c)) i (512 * t.val + n) k := by
  have e : ∀ j < 4, term (at2 (xs m c)) (at2 (wb m c t)) (at2 (sb m c t)) (at2 (lb m c t)) i n j k
      = term (at2 (xs m c)) (at2 (ws m c)) (at2 (ss m c)) (at2 (ls m c)) i (512 * t.val + n) j k := fun j hj => by
    unfold term weight
    rw [wb_at m c t hk hn, sb_at m c t (by omega) hn, lb_at m c t (by omega) hn]
  unfold row4
  rw [e 0 (by omega), e 1 (by omega), e 2 (by omega), e 3 (by omega)]

/-- Each point writes back its block of the result. -/
theorem flushed4_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  funext y
  have hy0 : (y 0).val < 8 := (y 0).isLt
  have hy1 : (y 1).val < 512 := (y 1).isLt
  have hb0 : (((cfg0.win 4).blk t).view.emb y 0).val = win0_4.index t (0 : Fin 2) * 8 + 1 * (y 0).val := rfl
  have hb1 : (((cfg0.win 4).blk t).view.emb y 1).val = win0_4.index t (1 : Fin 2) * 512 + 1 * (y 1).val := rfl
  rw [(index4 t).1] at hb0
  rw [(index4 t).2] at hb1
  show (∑ k ∈ Finset.range 4096, row4 (at2 (xs m c)) (at2 (wb m c t)) (at2 (sb m c t)) (at2 (lb m c t)) (y 0).val (y 1).val k : EReal)
    = ∑ k ∈ Finset.range 4096, row4 (at2 (xs m c)) (at2 (ws m c)) (at2 (ss m c)) (at2 (ls m c)) (((cfg0.win 4).blk t).view.emb y 0).val (((cfg0.win 4).blk t).view.emb y 1).val k
  rw [hb0, hb1, show 0 * 8 + 1 * (y 0).val = (y 0).val from by omega, show t.val * 512 + 1 * (y 1).val = 512 * t.val + (y 1).val from by omega]
  exact (Finset.sum_congr rfl fun k hk => row4_block m c t _ (Finset.mem_range.mp hk) hy1 : (_ : EReal) = _)

/-- An index of the array is in point `t`'s block iff each coordinate is in the block's range on its axis. -/
theorem mem_blk4 (t : Fin cfg0.N) (i : S8x8192.Idx) :
    i ∈ ((cfg0.win 4).blk t).view.set ↔ ∀ a : Fin 2, win0_4.index t a * S8x512.size a ≤ (i a).val ∧ (i a).val < win0_4.index t a * S8x512.size a + S8x512.size a := by
  show i ∈ ((View.whole main_v1).slice (win0_4.rect t)).set ↔ _
  rw [View.set_slice_whole, Rect.mem_set_unit]
  exact Iff.rfl

theorem flush4 : ∀ t : Fin cfg0.N, (cfg0.win 4).flush t = true :=
  (by decide +kernel : ∀ t : Fin grid0.N, win0_4.flush t = true)

/-- The blocks cover the result. -/
theorem covered4 (i : S8x8192.Idx) : ∃ t : Fin cfg0.N, (cfg0.win 4).flush t = true ∧ i ∈ ((cfg0.win 4).blk t).view.set := by
  have hi0 : (i 0).val < 8 := (i 0).isLt
  have hi1 : (i 1).val < 8192 := (i 1).isLt
  refine ⟨⟨(i 1).val / 512, lt_of_lt_of_eq (by omega) N_0.symm⟩, flush4 _, ?_⟩
  rw [mem_blk4]
  intro a
  match a with
  | ⟨0, _⟩ =>
    show win0_4.index _ (0 : Fin 2) * 8 ≤ (i 0).val ∧ (i 0).val < win0_4.index _ (0 : Fin 2) * 8 + 8
    rw [(index4 _).1]; omega
  | ⟨1, _⟩ =>
    show win0_4.index _ (1 : Fin 2) * 512 ≤ (i 1).val ∧ (i 1).val < win0_4.index _ (1 : Fin 2) * 512 + 512
    rw [(index4 _).2]
    show (i 1).val / 512 * 512 ≤ (i 1).val ∧ (i 1).val < (i 1).val / 512 * 512 + 512
    omega

theorem final4 (c : Dev nD) : (dats m 0 c).arrAt 4 cfg0.N = result m c :=
  (dats m 0 c).arrAt_eq_of_cover 4 _ (fun t _ => flushed4_eq m c t) covered4

/-- Every execution ends with the result array at `result` and the argument arrays unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(((h c).1 4).trans (final4 m c)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

/-- The activations reach the call with their unit axis dropped. -/
theorem xs_eq (c : Dev nD) : xs m c = shapeCast S8x16384 (m ((c : Thread nD τ).loc main_arg0) : Vec Ideal S8x1x16384 .bf16) shapeCasts_S8x1x16384_S8x16384 := by
  show V m c main_v0 = _
  entry_read
  rfl

end Cert.KernelIdeal.Value

end
-- ==== Proof.ReferenceValue.lean ====
/- The reference's run over the reals: the same sums. -/
module

public import proofs.«01_k».proof.Proof.Gen.ReferenceIdeal.Value
public import proofs.«01_k».proof.Proof.Spec
public import Idealize.ShloMosaic.Lib.Pipeline.ValueKit

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.SL.Sem

/-- The weights of one field: its codes, each group of sixteen rows scaled and shifted. -/
def weights (sh : BitVec 32) (g : ℕ) (h : S1024x8192.Slices ![g, 0] S256x8192) (w : Vec Ideal S4096x8192 .i8) (s m : Vec Ideal S1024x8192 .bf16) : FVec Ideal S4096x8192 .bf16 :=
  have c : FVec Ideal S4096x8192 .bf16 := sitofp .bf16 (andi (shrsi (extui 32 w natLt_8_32) (broadcast S4096x8192 sh)) (broadcast S4096x8192 3#32))
  have s1 : FVec Ideal S256x1x8192 .bf16 := shapeCast S256x1x8192 (extractStridedSlice S256x8192 ![g, 0] s h) shapeCasts_S256x8192_S256x1x8192
  have m1 : FVec Ideal S256x1x8192 .bf16 := shapeCast S256x1x8192 (extractStridedSlice S256x8192 ![g, 0] m h) shapeCasts_S256x8192_S256x1x8192
  shapeCast S4096x8192 (addf (mulf (shapeCast S256x16x8192 c shapeCasts_S4096x8192_S256x16x8192) (broadcastTo S256x16x8192 s1 broadcasts_S256x1x8192_S256x16x8192)) (broadcastTo S256x16x8192 m1 broadcasts_S256x1x8192_S256x16x8192)) shapeCasts_S256x16x8192_S4096x8192

/-- One field's product. -/
def part (f : ℕ) (hf : S8x16384.Slices ![0, f] S8x4096) (x : Vec Ideal S8x16384 .bf16) (u : FVec Ideal S4096x8192 .bf16) : FVec Ideal S8x8192 .f32 :=
  matmul (F := Ideal) (φ₁ := .bf16) (φ₂ := .bf16) dot_S8x4096_S4096x8192_S8x8192_1_0_0_1_n_n none (extractStridedSlice S8x4096 ![0, f] x hf) u (constant S8x8192 .f32 0x00000000#32)

/-- The two bits of a byte that the reference's shift and mask pick. -/
theorem bits_eq : ∀ (j : Fin 4) (b : BitVec 8), IntOp.andi (IntOp.shrsi ArithUnit.vector (BitVec.setWidth 32 b) (BitVec.ofNat 32 (2 * j.val))) 3#32 = (field b j.val).setWidth 32 := by
  intro j b
  have hb := b.isLt
  have e : ((BitVec.setWidth 32 b).sshiftRight' (BitVec.ofNat 32 (2 * j.val))) = BitVec.setWidth 32 b >>> (2 * j.val) := by
    have h0 : (BitVec.setWidth 32 b).msb = false := by
      simp [BitVec.msb_setWidth, BitVec.getLsbD_of_ge]
    rw [BitVec.sshiftRight', BitVec.sshiftRight_eq_of_msb_false h0, BitVec.toNat_ofNat, Nat.mod_eq_of_lt (by omega)]
  have hj : (BitVec.ofNat 32 (2 * j.val)).toNat < 32 := by
    rw [BitVec.toNat_ofNat, Nat.mod_eq_of_lt (by omega)]; omega
  rw [IntOp.shrsi, if_pos hj, e]
  show (BitVec.setWidth 32 b >>> (2 * j.val)) &&& 3#32 = _
  apply BitVec.eq_of_toNat_eq
  have h3 : ∀ x : ℕ, x &&& 3 = x % 4 := fun x => Nat.and_two_pow_sub_one_eq_mod x 2
  simp only [field, BitVec.toNat_and, BitVec.toNat_ushiftRight, BitVec.toNat_setWidth, BitVec.toNat_ofNat, Nat.reduceMod, Nat.reducePow, h3]
  rw [Nat.mod_eq_of_lt (show b.toNat < 4294967296 by omega)]
  omega

theorem weights_read (sh : BitVec 32) (g : ℕ) (h) (hg : g + 256 ≤ 1024) (w : Vec Ideal S4096x8192 .i8) (s m : Vec Ideal S1024x8192 .bf16) (k : Fin 4096) (n : Fin 8192) :
    weights sh g h w s m (ix2 k n)
      = (((((IntOp.andi (IntOp.shrsi ArithUnit.vector (BitVec.setWidth 32 (w (ix2 k n))) sh) 3#32).toInt : ℤ) : ℝ) : EReal)
        * s (ix2 ⟨g + k.val / 16, by omega⟩ n) + m (ix2 ⟨g + k.val / 16, by omega⟩ n) : EReal) := by
  pointwise [weights]
  rfl

theorem weights_apply (j : Fin 4) (h) (w : Vec Ideal S4096x8192 .i8) (s m : Vec Ideal S1024x8192 .bf16) (k : Fin 4096) (n : Fin 8192) :
    weights (BitVec.ofNat 32 (2 * j.val)) (256 * j.val) h w s m (ix2 k n) = weight (at2 w) (at2 s) (at2 m) j.val k.val n.val := by
  rw [weights_read _ _ _ (by omega), code_of_word (bits_eq j _)]
  unfold weight
  rw [at2_ix2 w, at2_ix2 s, at2_ix2 m]

theorem part_apply (f : ℕ) (hf) (hb : f + 4096 ≤ 16384) (x : Vec Ideal S8x16384 .bf16) (u : FVec Ideal S4096x8192 .bf16) (i : Fin 8) (n : Fin 8192) :
    part f hf x u (ix2 i n) = (∑ k : Fin 4096, x (ix2 i ⟨f + k.val, by omega⟩) * u (ix2 k n) : EReal) := by
  pointwise [part]

/-- The reference's payload is the four fields' products added up. -/
theorem payload_eq (x : Vec Ideal S8x16384 .bf16) (w : Vec Ideal S4096x8192 .i8) (s m : Vec Ideal S1024x8192 .bf16) :
    k0_pay1 (k0_pay2 x) w s m (k0_pay3 x w s m) (k0_pay4 w)
      = truncf .bf16 (addf (addf (addf (part (4096 * 0) slices_S8x16384_o0_0_S8x4096 (shapeCast S8x16384 x shapeCasts_S8x16384_S8x16384) (weights (BitVec.ofNat 32 (2 * 0)) (256 * 0) slices_S1024x8192_o0_0_S256x8192 w s m))
        (part (4096 * 1) slices_S8x16384_o0_4096_S8x4096 (shapeCast S8x16384 x shapeCasts_S8x16384_S8x16384) (weights (BitVec.ofNat 32 (2 * 1)) (256 * 1) slices_S1024x8192_o256_0_S256x8192 w s m)))
        (part (4096 * 2) slices_S8x16384_o0_8192_S8x4096 (shapeCast S8x16384 x shapeCasts_S8x16384_S8x16384) (weights (BitVec.ofNat 32 (2 * 2)) (256 * 2) slices_S1024x8192_o512_0_S256x8192 w s m)))
        (part (4096 * 3) slices_S8x16384_o0_12288_S8x4096 (shapeCast S8x16384 x shapeCasts_S8x16384_S8x16384) (weights (BitVec.ofNat 32 (2 * 3)) (256 * 3) slices_S1024x8192_o768_0_S256x8192 w s m))) bitsLt_bf16_f32 := rfl

/-- One field's product is the sum of its terms. -/
theorem part_eq (j : Fin 4) (hf h) (x : Vec Ideal S8x16384 .bf16) (w : Vec Ideal S4096x8192 .i8) (s m : Vec Ideal S1024x8192 .bf16) (i : Fin 8) (n : Fin 8192) :
    part (4096 * j.val) hf (shapeCast S8x16384 x shapeCasts_S8x16384_S8x16384) (weights (BitVec.ofNat 32 (2 * j.val)) (256 * j.val) h w s m) (ix2 i n)
      = (∑ k ∈ Finset.range 4096, term (at2 x) (at2 w) (at2 s) (at2 m) i.val n.val j.val k : EReal) := by
  have hx : shapeCast S8x16384 x shapeCasts_S8x16384_S8x16384 = x := by funext y; pointwise
  rw [hx, part_apply _ _ (by omega), ← Fin.sum_univ_eq_sum_range (fun k => term (at2 x) (at2 w) (at2 s) (at2 m) i.val n.val j.val k)]
  refine Finset.sum_congr rfl fun k _ => ?_
  rw [weights_apply, at2_ix2 x]
  rfl

/-- The reference's result at a place: the sum over the rows of the four fields' terms. -/
theorem payload_apply (x : Vec Ideal S8x16384 .bf16) (w : Vec Ideal S4096x8192 .i8) (s m : Vec Ideal S1024x8192 .bf16) (i : Fin 8) (n : Fin 8192) :
    k0_pay1 (k0_pay2 x) w s m (k0_pay3 x w s m) (k0_pay4 w) (ix2 i n)
      = (∑ k ∈ Finset.range 4096, row4 (at2 x) (at2 w) (at2 s) (at2 m) i.val n.val k : EReal) := by
  rw [payload_eq]
  unfold row4
  rw [Finset.sum_add_distrib, Finset.sum_add_distrib, Finset.sum_add_distrib]
  have e0 := part_eq 0 slices_S8x16384_o0_0_S8x4096 slices_S1024x8192_o0_0_S256x8192 x w s m i n
  have e1 := part_eq 1 slices_S8x16384_o0_4096_S8x4096 slices_S1024x8192_o256_0_S256x8192 x w s m i n
  have e2 := part_eq 2 slices_S8x16384_o0_8192_S8x4096 slices_S1024x8192_o512_0_S256x8192 x w s m i n
  have e3 := part_eq 3 slices_S8x16384_o0_12288_S8x4096 slices_S1024x8192_o768_0_S256x8192 x w s m i n
  exact congrArg₂ (fun a b : EReal => a + b) (congrArg₂ (fun a b : EReal => a + b) (congrArg₂ (fun a b : EReal => a + b) e0 e1) e2) e3

variable (m : (ℓ : Loc nD τ sig) → Buf (Elt Ideal) ℓ) (ρ : Dev nD → PrngReg)

/-- The operand arrays as the call finds them. -/
abbrev xs (c : Dev nD) : Vec Ideal S8x16384 .bf16 := V m c (Pipeline.arrRef spec0 0)
abbrev ws (c : Dev nD) : Vec Ideal S4096x8192 .i8 := V m c (Pipeline.arrRef spec0 1)
abbrev ss (c : Dev nD) : Vec Ideal S1024x8192 .bf16 := V m c (Pipeline.arrRef spec0 2)
abbrev ls (c : Dev nD) : Vec Ideal S1024x8192 .bf16 := V m c (Pipeline.arrRef spec0 3)

/-- What the result array ends holding. -/
def result (c : Dev nD) : Buf (Elt Ideal) ((c : Thread nD τ).loc main_v1) := fun y =>
  (∑ k ∈ Finset.range 4096, row4 (at2 (xs m c)) (at2 (ws m c)) (at2 (ss m c)) (at2 (ls m c)) (y 0).val (y 1).val k : EReal)

/-- The one block of each array starts at its origin, -/
theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)

/-- so each operand's block is its whole array. -/
theorem block0 (c : Dev nD) (t : Fin cfg0.N) : (iblk m c 0 t : Vec Ideal S8x16384 .bf16) = xs m c := by
  funext y
  refine (at2_eq (xs m c) (((cfg0.win 0).blk t).view.emb y) (i := (y 0).val) (j := (y 1).val) ?_ ?_).trans (at2_eq (xs m c) y rfl rfl).symm
  · have h : (((cfg0.win 0).blk t).view.emb y 0).val = win0_0.index t (0 : Fin 2) * 8 + 1 * (y 0).val := rfl
    rw [h, (index0 t).1]; omega
  · have h : (((cfg0.win 0).blk t).view.emb y 1).val = win0_0.index t (1 : Fin 2) * 16384 + 1 * (y 1).val := rfl
    rw [h, (index0 t).2]; omega
theorem block1 (c : Dev nD) (t : Fin cfg0.N) : (iblk m c 1 t : Vec Ideal S4096x8192 .i8) = ws m c := by
  funext y
  refine (at2_eq (ws m c) (((cfg0.win 1).blk t).view.emb y) (i := (y 0).val) (j := (y 1).val) ?_ ?_).trans (at2_eq (ws m c) y rfl rfl).symm
  · have h : (((cfg0.win 1).blk t).view.emb y 0).val = win0_1.index t (0 : Fin 2) * 4096 + 1 * (y 0).val := rfl
    rw [h, (index1 t).1]; omega
  · have h : (((cfg0.win 1).blk t).view.emb y 1).val = win0_1.index t (1 : Fin 2) * 8192 + 1 * (y 1).val := rfl
    rw [h, (index1 t).2]; omega
theorem block2 (c : Dev nD) (t : Fin cfg0.N) : (iblk m c 2 t : Vec Ideal S1024x8192 .bf16) = ss m c := by
  funext y
  refine (at2_eq (ss m c) (((cfg0.win 2).blk t).view.emb y) (i := (y 0).val) (j := (y 1).val) ?_ ?_).trans (at2_eq (ss m c) y rfl rfl).symm
  · have h : (((cfg0.win 2).blk t).view.emb y 0).val = win0_2.index t (0 : Fin 2) * 1024 + 1 * (y 0).val := rfl
    rw [h, (index2 t).1]; omega
  · have h : (((cfg0.win 2).blk t).view.emb y 1).val = win0_2.index t (1 : Fin 2) * 8192 + 1 * (y 1).val := rfl
    rw [h, (index2 t).2]; omega
theorem block3 (c : Dev nD) (t : Fin cfg0.N) : (iblk m c 3 t : Vec Ideal S1024x8192 .bf16) = ls m c := by
  funext y
  refine (at2_eq (ls m c) (((cfg0.win 3).blk t).view.emb y) (i := (y 0).val) (j := (y 1).val) ?_ ?_).trans (at2_eq (ls m c) y rfl rfl).symm
  · have h : (((cfg0.win 3).blk t).view.emb y 0).val = win0_3.index t (0 : Fin 2) * 1024 + 1 * (y 0).val := rfl
    rw [h, (index3 t).1]; omega
  · have h : (((cfg0.win 3).blk t).view.emb y 1).val = win0_3.index t (1 : Fin 2) * 8192 + 1 * (y 1).val := rfl
    rw [h, (index3 t).2]; omega

/-- The reference's result from its operands. -/
def product (x : Vec Ideal S8x16384 .bf16) (w : Vec Ideal S4096x8192 .i8) (s m : Vec Ideal S1024x8192 .bf16) : Vec Ideal S8x8192 .bf16 := fun y =>
  (∑ k ∈ Finset.range 4096, row4 (at2 x) (at2 w) (at2 s) (at2 m) (y 0).val (y 1).val k : EReal)

/-- What the one point leaves. -/
theorem out_eq (x : Vec Ideal S8x16384 .bf16) (w : Vec Ideal S4096x8192 .i8) (s m : Vec Ideal S1024x8192 .bf16) :
    out0_4 x w s m = product x w s m := by
  unfold out0_4
  rw [View.canon_cons_unit_lit _ _ _ (by decide), View.ld_unit_lit _ x (by decide), View.ld_unit_lit _ w (by decide), View.ld_unit_lit _ s (by decide), View.ld_unit_lit _ m (by decide)]
  funext y
  rw [eq_ix2 y]
  exact payload_apply x w s m (y 0) (y 1)

/-- The one point writes back the result. -/
theorem flushed4_eq (c : Dev nD) (t : Fin cfg0.N) :
    (dats m 0 c).flushed 4 t = ((cfg0.win 4).blk t).view.read (Elt Ideal) (result m c) := by
  rw [Value.flushed4, out_eq, block0, block1, block2, block3]
  funext y
  have hb0 : (((cfg0.win 4).blk t).view.emb y 0).val = win0_4.index t (0 : Fin 2) * 8 + 1 * (y 0).val := rfl
  have hb1 : (((cfg0.win 4).blk t).view.emb y 1).val = win0_4.index t (1 : Fin 2) * 8192 + 1 * (y 1).val := rfl
  rw [(index4 t).1] at hb0
  rw [(index4 t).2] at hb1
  show (∑ k ∈ Finset.range 4096, row4 (at2 (xs m c)) (at2 (ws m c)) (at2 (ss m c)) (at2 (ls m c)) (y 0).val (y 1).val k : EReal)
    = ∑ k ∈ Finset.range 4096, row4 (at2 (xs m c)) (at2 (ws m c)) (at2 (ss m c)) (at2 (ls m c)) (((cfg0.win 4).blk t).view.emb y 0).val (((cfg0.win 4).blk t).view.emb y 1).val k
  rw [hb0, hb1, show 0 * 8 + 1 * (y 0).val = (y 0).val from by omega, show 0 * 8192 + 1 * (y 1).val = (y 1).val from by omega]

theorem mem_blk4 (t : Fin cfg0.N) (i : S8x8192.Idx) :
    i ∈ ((cfg0.win 4).blk t).view.set ↔ ∀ a : Fin 2, win0_4.index t a * S8x8192.size a ≤ (i a).val ∧ (i a).val < win0_4.index t a * S8x8192.size a + S8x8192.size a := by
  show i ∈ ((View.whole main_v1).slice (win0_4.rect t)).set ↔ _
  rw [View.set_slice_whole, Rect.mem_set_unit]
  exact Iff.rfl

theorem flush4 : ∀ t : Fin cfg0.N, (cfg0.win 4).flush t = true :=
  (by decide +kernel : ∀ t : Fin grid0.N, win0_4.flush t = true)

/-- The one block covers the result. -/
theorem covered4 (i : S8x8192.Idx) : ∃ t : Fin cfg0.N, (cfg0.win 4).flush t = true ∧ i ∈ ((cfg0.win 4).blk t).view.set := by
  have hi0 : (i 0).val < 8 := (i 0).isLt
  have hi1 : (i 1).val < 8192 := (i 1).isLt
  refine ⟨⟨0, by decide⟩, flush4 _, ?_⟩
  rw [mem_blk4]
  intro a
  match a with
  | ⟨0, _⟩ =>
    show win0_4.index _ (0 : Fin 2) * 8 ≤ (i 0).val ∧ (i 0).val < win0_4.index _ (0 : Fin 2) * 8 + 8
    rw [(index4 _).1]; omega
  | ⟨1, _⟩ =>
    show win0_4.index _ (1 : Fin 2) * 8192 ≤ (i 1).val ∧ (i 1).val < win0_4.index _ (1 : Fin 2) * 8192 + 8192
    rw [(index4 _).2]; omega

/-- Every execution of the reference ends with the result array at `result` and the argument arrays unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t _ => flushed4_eq m c t) covered4), (h c).2⟩)
    (Value.run_blocks m ρ)

/-- The activations reach the call with their unit axis dropped. -/
theorem xs_eq (c : Dev nD) : xs m c = shapeCast S8x16384 (m ((c : Thread nD τ).loc main_arg0) : Vec Ideal S8x1x16384 .bf16) shapeCasts_S8x1x16384_S8x16384 := by
  show V m c main_v0 = _
  entry_read
  rfl

end Cert.ReferenceIdeal.Hand

end
-- ==== Proof.Algebraic.lean ====
/- The kernel and the reference end with equal results. -/
module

public import proofs.«01_k».proof.Proof.KernelValue
public import proofs.«01_k».proof.Proof.ReferenceValue
public import proofs.«01_k».proof.Defs

@[expose] public section

set_option maxRecDepth 16384

noncomputable section

namespace Cert.Hand

open Idealize.ShloMosaic Idealize.ShloMosaic.TcCoe Idealize.SL.Sem

/-- From memories that agree on the arguments, the two results are the same sums. -/
theorem results_eq (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)) :
    ReferenceIdeal.Hand.result m' c = KernelIdeal.Value.result m c := by
  obtain ⟨h0, h1, h2, h3⟩ := h
  have ex : ReferenceIdeal.Hand.xs m' c = KernelIdeal.Value.xs m c := by
    rw [ReferenceIdeal.Hand.xs_eq, KernelIdeal.Value.xs_eq]
    exact congrArg (fun z => shapeCast KernelIdeal.S8x16384 (z : Vec Ideal KernelIdeal.S8x1x16384 .bf16) KernelIdeal.Gen.shapeCasts_S8x1x16384_S8x16384) h0
  have ew : ReferenceIdeal.Hand.ws m' c = KernelIdeal.Value.ws m c :=
    (ReferenceIdeal.Gen.V_main_arg1 m' c).trans (h1.trans (KernelIdeal.Gen.V_main_arg1 m c).symm)
  have es : ReferenceIdeal.Hand.ss m' c = KernelIdeal.Value.ss m c :=
    (ReferenceIdeal.Gen.V_main_arg2 m' c).trans (h2.trans (KernelIdeal.Gen.V_main_arg2 m c).symm)
  have el : ReferenceIdeal.Hand.ls m' c = KernelIdeal.Value.ls m c :=
    (ReferenceIdeal.Gen.V_main_arg3 m' c).trans (h3.trans (KernelIdeal.Gen.V_main_arg3 m c).symm)
  unfold ReferenceIdeal.Hand.result KernelIdeal.Value.result
  rw [ex, ew, es, el]
  rfl

/-- The kernel and the reference end with equal results. -/
theorem algebraic [hKernelIdeal : Cert.KernelIdeal.Facts] [hReferenceIdeal : Cert.ReferenceIdeal.Facts] : Cert.algebraic_KernelIdeal_ReferenceIdeal := by
  intro m g m' g' _ h
  exact ⟨fun c => KernelIdeal.Value.result m c, KernelIdeal.Value.run m g,
    (θ_run _ _ _).mono (fun r hr c => ⟨(hr c).1.trans (results_eq m m' c (h c)), (hr c).2⟩) (ReferenceIdeal.Hand.run m' g')⟩

end Cert.Hand

end
-- ==== Proof.lean ====
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelValue
public import proofs.«01_k».proof.Proof.Algebraic
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m ρ _ => Cert.Kernel.Hand.frame m ρ,
    fun m ρ _ => Cert.KernelIdeal.Value.frame m ρ,
    fun m ρ _ => Cert.ReferenceIdeal.Gen.frame m ρ,
    ⟨IdealRules.bf16_pair.statement _ _, IdealRules.bf16_pair.statement _ _, IdealRules.bf16_pair.statement _ _⟩,
    Cert.Hand.algebraic⟩

end Cert.Proof

end
